-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x640x512 : Shape := ⟨3, ![3, 640, 512]⟩
abbrev S3x640 : Shape := ⟨2, ![3, 640]⟩
abbrev S8192x512 : Shape := ⟨2, ![8192, 512]⟩
abbrev S512 : Shape := ⟨1, ![512]⟩
abbrev S1920x512 : Shape := ⟨2, ![1920, 512]⟩
abbrev S1x512 : Shape := ⟨2, ![1, 512]⟩
abbrev S512x512 : Shape := ⟨2, ![512, 512]⟩
abbrev S1920x128 : Shape := ⟨2, ![1920, 128]⟩
abbrev S1x128 : Shape := ⟨2, ![1, 128]⟩
abbrev S128x128 : Shape := ⟨2, ![128, 128]⟩
abbrev S16x512 : Shape := ⟨2, ![16, 512]⟩
abbrev S8x512 : Shape := ⟨2, ![8, 512]⟩
abbrev S640x512 : Shape := ⟨2, ![640, 512]⟩
abbrev S8x128 : Shape := ⟨2, ![8, 128]⟩
abbrev S64x128 : Shape := ⟨2, ![64, 128]⟩
abbrev S32x128 : Shape := ⟨2, ![32, 128]⟩
abbrev S16x128 : Shape := ⟨2, ![16, 128]⟩
abbrev S4x128 : Shape := ⟨2, ![4, 128]⟩
abbrev S2x128 : Shape := ⟨2, ![2, 128]⟩
abbrev S128x512 : Shape := ⟨2, ![128, 512]⟩

abbrev nBuf : Space → Nat
  | .hbm => 8
  | .vmem => 11
  | .smem => 0
  | _ => 0

abbrev bufTy : (tb : Table) → Fin (tcTables nBuf tb) → BufTy
  | .hbm, ⟨0, _⟩ => ⟨S3x640x512, .fp8e4m3⟩
  | .hbm, ⟨1, _⟩ => ⟨S3x640, .f32⟩
  | .hbm, ⟨2, _⟩ => ⟨S8192x512, .fp8e4m3⟩
  | .hbm, ⟨3, _⟩ => ⟨S512, .f32⟩
  | .hbm, ⟨4, _⟩ => ⟨S1920x512, .fp8e4m3⟩
  | .hbm, ⟨5, _⟩ => ⟨S1x512, .f32⟩
  | .hbm, ⟨6, _⟩ => ⟨S3x640, .f32⟩
  | .hbm, ⟨7, _⟩ => ⟨S3x640, .f32⟩
  | .local _ .vmem, ⟨0, _⟩ => ⟨S1920x512, .fp8e4m3⟩
  | .local _ .vmem, ⟨1, _⟩ => ⟨S3x640, .f32⟩
  | .local _ .vmem, ⟨2, _⟩ => ⟨S512x512, .fp8e4m3⟩
  | .local _ .vmem, ⟨3, _⟩ => ⟨S512x512, .fp8e4m3⟩
  | .local _ .vmem, ⟨4, _⟩ => ⟨S1x512, .f32⟩
  | .local _ .vmem, ⟨5, _⟩ => ⟨S3x640, .f32⟩
  | .local _ .vmem, ⟨6, _⟩ => ⟨S3x640, .f32⟩
  | .local _ .vmem, ⟨7, _⟩ => ⟨S1920x512, .bf16⟩
  | .local _ .vmem, ⟨8, _⟩ => ⟨S1920x128, .f32⟩
  | .local _ .vmem, ⟨9, _⟩ => ⟨S1920x128, .f32⟩
  | .local _ .vmem, ⟨10, _⟩ => ⟨S1920x128, .f32⟩
  | _, _ => ⟨S3x640x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v8903 : BitVec 1 := Scalar.cmpi .eq arg0 c15_i32
  let v8904 : BitVec 32 := Scalar.extui v8903
  let c0_i32_2180 : BitVec 32 := 0#32
  let v8905 : BitVec 1 := Scalar.cmpi .ne v8904 c0_i32_2180
  v8905

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1920x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x640 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S3x640x512 : Shape := ⟨3, ![3, 640, 512]⟩
abbrev S3x640 : Shape := ⟨2, ![3, 640]⟩
abbrev S8192x512 : Shape := ⟨2, ![8192, 512]⟩
abbrev S512 : Shape := ⟨1, ![512]⟩
abbrev S1920x512 : Shape := ⟨2, ![1920, 512]⟩
abbrev S1920 : Shape := ⟨1, ![1920]⟩
abbrev S1x512 : Shape := ⟨2, ![1, 512]⟩
abbrev S8192 : Shape := ⟨1, ![8192]⟩
abbrev S1920x8192 : Shape := ⟨2, ![1920, 8192]⟩
abbrev S1920x1 : Shape := ⟨2, ![1920, 1]⟩
abbrev S1x8192 : Shape := ⟨2, ![1, 8192]⟩

abbrev nBuf : Space → Nat
  | .hbm => 6
  | .vmem => 6
  | .smem => 0
  | _ => 0

abbrev bufTy : (tb : Table) → Fin (tcTables nBuf tb) → BufTy
  | .hbm, ⟨0, _⟩ => ⟨S3x640x512, .fp8e4m3⟩
  | .hbm, ⟨1, _⟩ => ⟨S3x640, .f32⟩
  | .hbm, ⟨2, _⟩ => ⟨S8192x512, .fp8e4m3⟩
  | .hbm, ⟨3, _⟩ => ⟨S512, .f32⟩
  | .hbm, ⟨4, _⟩ => ⟨S3x640, .f32⟩
  | .hbm, ⟨5, _⟩ => ⟨S3x640, .f32⟩
  | .local _ .vmem, ⟨0, _⟩ => ⟨S3x640x512, .fp8e4m3⟩
  | .local _ .vmem, ⟨1, _⟩ => ⟨S3x640, .f32⟩
  | .local _ .vmem, ⟨2, _⟩ => ⟨S8192x512, .fp8e4m3⟩
  | .local _ .vmem, ⟨3, _⟩ => ⟨S512, .f32⟩
  | .local _ .vmem, ⟨4, _⟩ => ⟨S3x640, .f32⟩
  | .local _ .vmem, ⟨5, _⟩ => ⟨S3x640, .f32⟩
  | _, _ => ⟨S3x640x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S3x640x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x512 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x640 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Pieces.lean ====
/- What one grid point stores, as lists of pieces written once for all 240 row groups: group `g` is rows 8g … 8g+7 of
   the token axis, and its two stores hold the running smallest and second smallest of each lane after the point's four
   groups of 128 codes. -/
module

public import proofs.«01_k».proof.Proof.Gen.KernelIdeal.Value

@[expose] public section

noncomputable section

namespace Cert.Proof

open Cert.KernelIdeal Cert.KernelIdeal.Gen Idealize.ShloMosaic Idealize.ShloMosaic.TcCoe

variable {F : FTy → Type} [FloatOps F]

/-- A list of stores into a token-by-lane buffer. -/
abbrev Stores (F : FTy → Type) [FloatOps F] := List (View.Piece (Elt F) S1920x128 .f32)

/-- Rows 8g … 8g+7 lie in the buffer. -/
theorem row_inb (g : Fin 240) : ∀ a, (![8 * g.val, 0] : Fin 2 → Nat) a + S8x128.size a ≤ S1920x128.size a := by
  intro a
  match a with
  | ⟨0, _⟩ => show 8 * g.val + 8 ≤ 1920; omega
  | ⟨1, _⟩ => show 0 + 128 ≤ 128; omega

/-- The rectangle of row group `g`. -/
abbrev rowR (g : Fin 240) : Rect S1920x128 := Rect.unit (s := S1920x128) ![8 * g.val, 0] S8x128.size (row_inb g)

/-- Lanes 128j … 128j+127 of the code norms. -/
theorem cn_slices (j : Fin 4) : S8x512.Slices ![0, 128 * j.val] S8x128 :=
  ⟨rfl, fun a => match a with
    | ⟨0, _⟩ => by show 0 + 8 ≤ 8; omega
    | ⟨1, _⟩ => by show 128 * j.val + 128 ≤ 512; omega⟩

/-- Rows of group `g` within its block of 640 tokens, lanes 128j … 128j+127. -/
theorem dot_slices (g : Fin 240) (j : Fin 4) : S640x512.Slices ![8 * (g.val % 80), 128 * j.val] S8x128 :=
  ⟨rfl, fun a => match a with
    | ⟨0, _⟩ => by show 8 * (g.val % 80) + 8 ≤ 640; omega
    | ⟨1, _⟩ => by show 128 * j.val + 128 ≤ 512; omega⟩

/-- The shifted distances of a row group to codes 128j … 128j+127 of the block. -/
def dist (cn : FVec F S8x512 .f32) (dot : FVec F S640x512 .f32) (s2 : Vec F S8x128 .f32) (g : Fin 240) (j : Fin 4) : FVec F S8x128 .f32 :=
  subf (extractStridedSlice S8x128 ![0, 128 * j.val] cn (cn_slices j))
    (mulf s2 (extractStridedSlice S8x128 ![8 * (g.val % 80), 128 * j.val] dot (dot_slices g j)))

/-- The smallest per lane after a point's four groups of codes. -/
def stepM1 (cn : FVec F S8x512 .f32) (dot : FVec F S640x512 .f32) (s2 : Vec F S8x128 .f32) (g : Fin 240) (m1 : Vec F S8x128 .f32) : FVec F S8x128 .f32 :=
  minimumf (minimumf (minimumf (minimumf m1 (dist cn dot s2 g 0)) (dist cn dot s2 g 1)) (dist cn dot s2 g 2)) (dist cn dot s2 g 3)

/-- The second smallest per lane after a point's four groups of codes. -/
def stepM2 (cn : FVec F S8x512 .f32) (dot : FVec F S640x512 .f32) (s2 : Vec F S8x128 .f32) (g : Fin 240) (m1 m2 : Vec F S8x128 .f32) : FVec F S8x128 .f32 :=
  minimumf (minimumf (minimumf (minimumf m2 (maximumf m1 (dist cn dot s2 g 0)))
    (maximumf (minimumf m1 (dist cn dot s2 g 0)) (dist cn dot s2 g 1)))
    (maximumf (minimumf (minimumf m1 (dist cn dot s2 g 0)) (dist cn dot s2 g 1)) (dist cn dot s2 g 2)))
    (maximumf (minimumf (minimumf (minimumf m1 (dist cn dot s2 g 0)) (dist cn dot s2 g 1)) (dist cn dot s2 g 2)) (dist cn dot s2 g 3))

/-- The two lists of stores of the first `n` row groups, the last first, over stores `I` made before: each group reads
    its rows by `rd` off what is stored so far. -/
def stores (cn : FVec F S8x512 .f32) (dot : Fin 240 → FVec F S640x512 .f32) (s2 : Fin 240 → Vec F S8x128 .f32)
    (rd1 rd2 : Stores F → Fin 240 → Vec F S8x128 .f32) (I : Stores F × Stores F) : ℕ → Stores F × Stores F
  | 0 => I
  | n + 1 =>
    (⟨rowR (Fin.ofNat 240 n), shapeCast S8x128 (stepM1 cn (dot (Fin.ofNat 240 n)) (s2 (Fin.ofNat 240 n)) (Fin.ofNat 240 n)
        (rd1 (stores cn dot s2 rd1 rd2 I n).1 (Fin.ofNat 240 n))) shapeCasts_S8x128_S8x128⟩ :: (stores cn dot s2 rd1 rd2 I n).1,
     ⟨rowR (Fin.ofNat 240 n), shapeCast S8x128 (stepM2 cn (dot (Fin.ofNat 240 n)) (s2 (Fin.ofNat 240 n)) (Fin.ofNat 240 n)
        (rd1 (stores cn dot s2 rd1 rd2 I n).1 (Fin.ofNat 240 n))
        (rd2 (stores cn dot s2 rd1 rd2 I n).2 (Fin.ofNat 240 n))) shapeCasts_S8x128_S8x128⟩ :: (stores cn dot s2 rd1 rd2 I n).2)

/-- Rows 640·(g/80) … of the token axis lie in the scaled-token buffer. -/
theorem blk_inb (g : Fin 240) : ∀ a, (![640 * (g.val / 80), 0] : Fin 2 → Nat) a + S640x512.size a ≤ S1920x512.size a := by
  intro a
  match a with
  | ⟨0, _⟩ => show 640 * (g.val / 80) + 640 ≤ 1920; omega
  | ⟨1, _⟩ => show 0 + 512 ≤ 512; omega

/-- The rectangle of the 640 tokens that row group `g` belongs to. -/
abbrev blkR (g : Fin 240) : Rect S1920x512 := Rect.unit (s := S1920x512) ![640 * (g.val / 80), 0] S640x512.size (blk_inb g)

section
variable (c : Dev nD) (i : grid0.Coords) (arg1 : Memref sig .tc .vmem S1920x512 .fp8e4m3) (harg1 : arg1.IsWhole) (arg2 : Memref sig .tc .vmem S3x640 .f32) (harg2 : arg2.IsWhole) (arg3 : Memref sig .tc .vmem S512x512 .fp8e4m3) (harg3 : arg3.IsWhole) (arg4 : Memref sig .tc .vmem S1x512 .f32) (harg4 : arg4.IsWhole) (arg5 : Memref sig .tc .vmem S3x640 .f32) (harg5 : arg5.IsWhole) (arg6 : Memref sig .tc .vmem S3x640 .f32) (harg6 : arg6.IsWhole)
  (arg7 : Memref sig .tc .vmem S1920x512 .bf16) (harg7 : arg7.IsWhole) (arg8 : Memref sig .tc .vmem S1920x128 .f32) (harg8 : arg8.IsWhole) (arg9 : Memref sig .tc .vmem S1920x128 .f32) (harg9 : arg9.IsWhole) (arg10 : Memref sig .tc .vmem S1920x128 .f32) (harg10 : arg10.IsWhole)
  (x0 : Vec F S1920x512 .fp8e4m3) (x1 : Vec F S3x640 .f32) (x2 : Vec F S512x512 .fp8e4m3) (x3 : Vec F S1x512 .f32) (xs0 : Vec F S1920x512 .bf16) (xs1 xs2 xs3 : Vec F S1920x128 .f32)

/-- The code norms of a point's block, as the body computes them. -/
def cnOf : FVec F S8x512 .f32 :=
  k0_pay229
    (View.readAt (Elt F) arg4.view (Rect.unit (s := S1x512) ![0, 0] S1x512.size inb_S1x512_S1x512_0_0).toLoadRect (harg4.unread x3))
    (View.readAt (Elt F) arg3.view (Rect.unit (s := S512x512) ![0, 0] S512x512.size inb_S512x512_S512x512_0_0).toLoadRect (harg3.unread x2))

/-- The products of 640 scaled tokens with a point's block of codes, as the body computes them. -/
def dotOf (rows : Vec F S640x512 .bf16) : FVec F S640x512 .f32 :=
  k0_pay230 rows
    (View.readAt (Elt F) arg3.view (Rect.unit (s := S512x512) ![0, 0] S512x512.size inb_S512x512_S512x512_0_0).toLoadRect (harg3.unread x2))

/-- A point's stores when it reads the scratch the point before left. -/
def storesBC : Stores F × Stores F :=
  stores (cnOf arg3 harg3 arg4 harg4 x2 x3)
    (fun g => dotOf arg3 harg3 x2 (View.readAt (Elt F) arg7.view (blkR g).toLoadRect (harg7.unread xs0)))
    (fun g => View.readAt (Elt F) arg8.view (rowR g).toLoadRect (harg8.unread xs1))
    (fun _ g => View.readAt (Elt F) arg9.view (rowR g).toLoadRect (harg9.unread xs2))
    (fun _ g => View.readAt (Elt F) arg10.view (rowR g).toLoadRect (harg10.unread xs3)) ([], []) 240

/-- A middle point stores the smallest values listed by `storesBC`. -/
theorem piecesB1 (hc0 : ¬cond0_0 i) (hc1 : ¬cond0_1 i) :
    (kernelRun0_B c i arg1 harg1 arg2 harg2 arg3 harg3 arg4 harg4 arg5 harg5 arg6 harg6 arg7 harg7 arg8 harg8 arg9 harg9 arg10 harg10 hc0 hc1 x0 x1 x2 x3 xs0 xs1 xs2 xs3).2.2.2.2.1
      = (storesBC arg3 harg3 arg4 harg4 arg7 harg7 arg8 harg8 arg9 harg9 arg10 harg10 x2 x3 xs0 xs1 xs2 xs3).1 := by
  sl_kernel_rfl

/-- A middle point stores the second smallest values listed by `storesBC`. -/
theorem piecesB2 (hc0 : ¬cond0_0 i) (hc1 : ¬cond0_1 i) :
    (kernelRun0_B c i arg1 harg1 arg2 harg2 arg3 harg3 arg4 harg4 arg5 harg5 arg6 harg6 arg7 harg7 arg8 harg8 arg9 harg9 arg10 harg10 hc0 hc1 x0 x1 x2 x3 xs0 xs1 xs2 xs3).2.2.2.2.2.1
      = (storesBC arg3 harg3 arg4 harg4 arg7 harg7 arg8 harg8 arg9 harg9 arg10 harg10 x2 x3 xs0 xs1 xs2 xs3).2 := by
  sl_kernel_rfl

/-- A middle point stores nothing into the scaled tokens. -/
theorem piecesB_x (hc0 : ¬cond0_0 i) (hc1 : ¬cond0_1 i) :
    (kernelRun0_B c i arg1 harg1 arg2 harg2 arg3 harg3 arg4 harg4 arg5 harg5 arg6 harg6 arg7 harg7 arg8 harg8 arg9 harg9 arg10 harg10 hc0 hc1 x0 x1 x2 x3 xs0 xs1 xs2 xs3).2.2.1 = [] := by
  sl_kernel_rfl

/-- Rows 128b … 128b+127 lie in a token-by-lane buffer. -/
theorem band_inb (b : Fin 15) : ∀ a, (![128 * b.val, 0] : Fin 2 → Nat) a + S128x128.size a ≤ S1920x128.size a := by
  intro a
  match a with
  | ⟨0, _⟩ => show 128 * b.val + 128 ≤ 1920; omega
  | ⟨1, _⟩ => show 0 + 128 ≤ 128; omega

/-- The rectangle of band `b`: tokens 128b … 128b+127. -/
abbrev bandR (b : Fin 15) : Rect S1920x128 := Rect.unit (s := S1920x128) ![128 * b.val, 0] S128x128.size (band_inb b)

/-- The tokens of band `b` are one row's 128 columns of a (batch, sequence) array. -/
theorem out_inb (b : Fin 15) : ∀ a, (![b.val / 5, 128 * (b.val % 5)] : Fin 2 → Nat) a + S1x128.size a ≤ S3x640.size a := by
  intro a
  match a with
  | ⟨0, _⟩ => show b.val / 5 + 1 ≤ 3; omega
  | ⟨1, _⟩ => show 128 * (b.val % 5) + 128 ≤ 640; omega

/-- The rectangle of band `b` in a (batch, sequence) array. -/
abbrev outR (b : Fin 15) : Rect S3x640 := Rect.unit (s := S3x640) ![b.val / 5, 128 * (b.val % 5)] S1x128.size (out_inb b)

/-- The rows of band `b` in the token codes. -/
theorem code_inb (b : Fin 15) : ∀ a, (![128 * b.val, 0] : Fin 2 → Nat) a + S128x512.size a ≤ S1920x512.size a := by
  intro a
  match a with
  | ⟨0, _⟩ => show 128 * b.val + 128 ≤ 1920; omega
  | ⟨1, _⟩ => show 0 + 512 ≤ 512; omega

/-- The rectangle of band `b` in the token codes. -/
abbrev codeR (b : Fin 15) : Rect S1920x512 := Rect.unit (s := S1920x512) ![128 * b.val, 0] S128x512.size (code_inb b)

/-- The first point's stores of the token scales, the last first. -/
def scaleStores : ℕ → Stores F
  | 0 => []
  | n + 1 => ⟨bandR (Fin.ofNat 15 n), k0_pay6 (View.readAt (Elt F) arg2.view (outR (Fin.ofNat 15 n)).toLoadRect (harg2.unread x1))⟩ :: scaleStores n

/-- The first point's one store of the scaled tokens. -/
def tokenStores : List (View.Piece (Elt F) S1920x512 .bf16) :=
  [⟨Rect.unit (s := S1920x512) ![0, 0] S1920x512.size inb_S1920x512_S1920x512_0_0,
    k0_pay5 (k0_pay226 (View.readAt (Elt F) arg4.view (Rect.unit (s := S1x512) ![0, 0] S1x512.size inb_S1x512_S1x512_0_0).toLoadRect (harg4.unread x3)))
      (View.readAt (Elt F) arg1.view (Rect.unit (s := S1920x512) ![0, 0] S1920x512.size inb_S1920x512_S1920x512_0_0).toLoadRect (harg1.unread x0))⟩]

/-- The first point's stores: it fills both buffers with infinity and reads everything back off its own stores. -/
def storesA : Stores F × Stores F :=
  stores (cnOf arg3 harg3 arg4 harg4 x2 x3)
    (fun g => dotOf arg3 harg3 x2 (arg7.view.readCov (tokenStores arg1 harg1 arg4 harg4 x0 x3) (blkR g).toLoadRect))
    (fun g => arg8.view.readCov (scaleStores arg2 harg2 x1 15) (rowR g).toLoadRect)
    (fun L g => arg9.view.readCov L (rowR g).toLoadRect)
    (fun L g => arg10.view.readCov L (rowR g).toLoadRect)
    ([⟨Rect.unit (s := S1920x128) ![0, 0] S1920x128.size inb_S1920x128_S1920x128_0_0, k0_pay227 k0_pay21⟩],
     [⟨Rect.unit (s := S1920x128) ![0, 0] S1920x128.size inb_S1920x128_S1920x128_0_0, k0_pay228⟩]) 240

/-- The first point stores the scaled tokens listed by `tokenStores`. -/
theorem piecesA_x (hc0 : cond0_0 i) (hc1 : ¬cond0_1 i) :
    (kernelRun0_A c i arg1 harg1 arg2 harg2 arg3 harg3 arg4 harg4 arg5 harg5 arg6 harg6 arg7 harg7 arg8 harg8 arg9 harg9 arg10 harg10 hc0 hc1 x0 x1 x2 x3).2.2.1
      = tokenStores arg1 harg1 arg4 harg4 x0 x3 := by
  sl_kernel_rfl

/-- The first point stores the token scales listed by `scaleStores`. -/
theorem piecesA_s (hc0 : cond0_0 i) (hc1 : ¬cond0_1 i) :
    (kernelRun0_A c i arg1 harg1 arg2 harg2 arg3 harg3 arg4 harg4 arg5 harg5 arg6 harg6 arg7 harg7 arg8 harg8 arg9 harg9 arg10 harg10 hc0 hc1 x0 x1 x2 x3).2.2.2.1
      = scaleStores arg2 harg2 x1 15 := by
  sl_kernel_rfl

/-- The first point stores the smallest values listed by `storesA`. -/
theorem piecesA1 (hc0 : cond0_0 i) (hc1 : ¬cond0_1 i) :
    (kernelRun0_A c i arg1 harg1 arg2 harg2 arg3 harg3 arg4 harg4 arg5 harg5 arg6 harg6 arg7 harg7 arg8 harg8 arg9 harg9 arg10 harg10 hc0 hc1 x0 x1 x2 x3).2.2.2.2.1
      = (storesA arg1 harg1 arg2 harg2 arg3 harg3 arg4 harg4 arg7 arg8 arg9 arg10 x0 x1 x2 x3).1 := by
  sl_kernel_rfl

/-- The first point stores the second smallest values listed by `storesA`. -/
theorem piecesA2 (hc0 : cond0_0 i) (hc1 : ¬cond0_1 i) :
    (kernelRun0_A c i arg1 harg1 arg2 harg2 arg3 harg3 arg4 harg4 arg5 harg5 arg6 harg6 arg7 harg7 arg8 harg8 arg9 harg9 arg10 harg10 hc0 hc1 x0 x1 x2 x3).2.2.2.2.2.1
      = (storesA arg1 harg1 arg2 harg2 arg3 harg3 arg4 harg4 arg7 arg8 arg9 arg10 x0 x1 x2 x3).2 := by
  sl_kernel_rfl

/-- `h` rows of 128 tokens. -/
abbrev Rows (h : ℕ) : Shape := ⟨2, ![h, 128]⟩

/-- The lower half of 2h rows. -/
theorem lo_slices (h : ℕ) : (Rows (2 * h)).Slices ![0, 0] (Rows h) :=
  ⟨rfl, fun a => match a with
    | ⟨0, _⟩ => by show 0 + h ≤ 2 * h; omega
    | ⟨1, _⟩ => by show 0 + 128 ≤ 128; omega⟩

/-- The upper half of 2h rows. -/
theorem hi_slices (h : ℕ) : (Rows (2 * h)).Slices ![h, 0] (Rows h) :=
  ⟨rfl, fun a => match a with
    | ⟨0, _⟩ => by show h + h ≤ 2 * h; omega
    | ⟨1, _⟩ => by show 0 + 128 ≤ 128; omega⟩

/-- One halving of the smallest values. -/
def half1 (h : ℕ) (a : FVec F (Rows (2 * h)) .f32) : FVec F (Rows h) .f32 :=
  minimumf (extractStridedSlice (Rows h) ![0, 0] a (lo_slices h)) (extractStridedSlice (Rows h) ![h, 0] a (hi_slices h))

/-- One halving of the second smallest values. -/
def half2 (h : ℕ) (a b : FVec F (Rows (2 * h)) .f32) : FVec F (Rows h) .f32 :=
  minimumf (maximumf (extractStridedSlice (Rows h) ![0, 0] a (lo_slices h)) (extractStridedSlice (Rows h) ![h, 0] a (hi_slices h)))
    (minimumf (extractStridedSlice (Rows h) ![0, 0] b (lo_slices h)) (extractStridedSlice (Rows h) ![h, 0] b (hi_slices h)))

/-- The smallest values of 128 lanes, by seven halvings. -/
def tree1 (a : FVec F (Rows 128) .f32) : FVec F (Rows 1) .f32 :=
  half1 1 (half1 2 (half1 4 (half1 8 (half1 16 (half1 32 (half1 64 a))))))

/-- The second smallest values of 128 lanes, by seven halvings. -/
def tree2 (a b : FVec F (Rows 128) .f32) : FVec F (Rows 1) .f32 :=
  half2 1 (half1 2 (half1 4 (half1 8 (half1 16 (half1 32 (half1 64 a))))))
    (half2 2 (half1 4 (half1 8 (half1 16 (half1 32 (half1 64 a)))))
      (half2 4 (half1 8 (half1 16 (half1 32 (half1 64 a))))
        (half2 8 (half1 16 (half1 32 (half1 64 a)))
          (half2 16 (half1 32 (half1 64 a))
            (half2 32 (half1 64 a)
              (half2 64 a b))))))

/-- A band of the lanes' values, turned so that each token is a column. -/
def turned (v : Vec F S128x128 .f32) : FVec F (Rows 128) .f32 := transpose S128x128 [1, 0] v transposes_S128x128_p1_0_S128x128

/-- The squared norms of a band's token codes. -/
def normOf (v : Vec F S128x512 .fp8e4m3) : FVec F S1x128 .f32 :=
  extractStridedSlice S1x128 ![0, 0]
    (matmul dot_S16x512_S128x512_S16x128_1_1_0_0_n_n none k0_pay22
      (mulf (extf .bf16 (shapeCast S128x512 v shapeCasts_S128x512_S128x512) bitsLt_fp8e4m3_bf16)
        (extf .bf16 (shapeCast S128x512 v shapeCasts_S128x512_S128x512) bitsLt_fp8e4m3_bf16))
      (constant S16x128 .f32 0x00000000#32)) slices_S16x128_o0_0_S1x128

/-- The last point's stores into the smallest distances, the last first. -/
def minStores : ℕ → List (View.Piece (Elt F) S3x640 .f32)
  | 0 => []
  | n + 1 => ⟨outR (Fin.ofNat 15 n),
      addf (mulf (mulf (View.readAt (Elt F) arg2.view (outR (Fin.ofNat 15 n)).toLoadRect (harg2.unread x1)) (View.readAt (Elt F) arg2.view (outR (Fin.ofNat 15 n)).toLoadRect (harg2.unread x1)))
        (normOf (View.readAt (Elt F) arg1.view (codeR (Fin.ofNat 15 n)).toLoadRect (harg1.unread x0))))
        (tree1 (turned (arg9.view.readCov (storesBC arg3 harg3 arg4 harg4 arg7 harg7 arg8 harg8 arg9 harg9 arg10 harg10 x2 x3 xs0 xs1 xs2 xs3).1 (bandR (Fin.ofNat 15 n)).toLoadRect)))⟩ :: minStores n

/-- The last point's stores into the gaps, the last first. -/
def gapStores : ℕ → List (View.Piece (Elt F) S3x640 .f32)
  | 0 => []
  | n + 1 => ⟨outR (Fin.ofNat 15 n),
      subf (tree2 (turned (arg9.view.readCov (storesBC arg3 harg3 arg4 harg4 arg7 harg7 arg8 harg8 arg9 harg9 arg10 harg10 x2 x3 xs0 xs1 xs2 xs3).1 (bandR (Fin.ofNat 15 n)).toLoadRect))
          (turned (arg10.view.readCov (storesBC arg3 harg3 arg4 harg4 arg7 harg7 arg8 harg8 arg9 harg9 arg10 harg10 x2 x3 xs0 xs1 xs2 xs3).2 (bandR (Fin.ofNat 15 n)).toLoadRect)))
        (tree1 (turned (arg9.view.readCov (storesBC arg3 harg3 arg4 harg4 arg7 harg7 arg8 harg8 arg9 harg9 arg10 harg10 x2 x3 xs0 xs1 xs2 xs3).1 (bandR (Fin.ofNat 15 n)).toLoadRect)))⟩ :: gapStores n

/-- The last point stores the smallest distances listed by `minStores`. -/
theorem piecesC4 (hc0 : ¬cond0_0 i) (hc1 : cond0_1 i) :
    (kernelRun0_C c i arg1 harg1 arg2 harg2 arg3 harg3 arg4 harg4 arg5 harg5 arg6 harg6 arg7 harg7 arg8 harg8 arg9 harg9 arg10 harg10 hc0 hc1 x0 x1 x2 x3 xs0 xs1 xs2 xs3).1
      = minStores arg1 harg1 arg2 harg2 arg3 harg3 arg4 harg4 arg7 harg7 arg8 harg8 arg9 harg9 arg10 harg10 x0 x1 x2 x3 xs0 xs1 xs2 xs3 15 := by
  sl_kernel_rfl

/-- The last point stores the gaps listed by `gapStores`. -/
theorem piecesC5 (hc0 : ¬cond0_0 i) (hc1 : cond0_1 i) :
    (kernelRun0_C c i arg1 harg1 arg2 harg2 arg3 harg3 arg4 harg4 arg5 harg5 arg6 harg6 arg7 harg7 arg8 harg8 arg9 harg9 arg10 harg10 hc0 hc1 x0 x1 x2 x3 xs0 xs1 xs2 xs3).2.1
      = gapStores arg3 harg3 arg4 harg4 arg7 harg7 arg8 harg8 arg9 harg9 arg10 harg10 x2 x3 xs0 xs1 xs2 xs3 15 := by
  sl_kernel_rfl

end

end Cert.Proof

end
-- ==== Proof.Scan.lean ====
/- What the lists of stores of `Pieces` leave in the two token-by-lane buffers, row group by row group. -/
module

public import proofs.«01_k».proof.Proof.Pieces
public import Idealize.ShloMosaic.Lib.Pointwise

@[expose] public section

noncomputable section

namespace Cert.Proof

open Cert.KernelIdeal Cert.KernelIdeal.Gen Idealize.ShloMosaic Idealize.ShloMosaic.TcCoe

variable {F : FTy → Type} [FloatOps F]

/-- The row group of an index. -/
def grp (y : S1920x128.Idx) : Fin 240 := ⟨(y 0).val / 8, by have h : (y 0).val < 1920 := (y 0).isLt; omega⟩

/-- An index within its row group. -/
def loc (y : S1920x128.Idx) : S8x128.Idx := ix2 ⟨(y 0).val % 8, by omega⟩ ⟨(y 1).val, (y 1).isLt⟩

/-- An index is its place in its row group. -/
theorem row_emb (y : S1920x128.Idx) : (rowR (grp y)).emb (loc y) = y := by
  funext a; apply Fin.ext
  match a with
  | ⟨0, _⟩ => show 8 * ((y 0).val / 8) + 1 * ((y 0).val % 8) = (y 0).val; omega
  | ⟨1, _⟩ => show 0 + 1 * (y 1).val = (y 1).val; omega

/-- The place of an index in a row group has that row group. -/
theorem grp_emb (g : Fin 240) (j : S8x128.Idx) : grp ((rowR g).emb j) = g := by
  apply Fin.ext
  have h : (j 0).val < 8 := (j 0).isLt
  show (8 * g.val + 1 * (j 0).val) / 8 = g.val
  omega

/-- An index lies in no other row group. -/
theorem row_not_mem (g : Fin 240) (y : S1920x128.Idx) (h : grp y ≠ g) : y ∉ (rowR g).set := by
  intro hm
  have h0 := Rect.mem_set_unit.mp hm 0
  apply h; apply Fin.ext
  have h1 : 8 * g.val ≤ (y 0).val := h0.1
  have h2 : (y 0).val < 8 * g.val + 8 := h0.2
  show (y 0).val / 8 = g.val
  omega

/-- A store into a row group is read back there. -/
theorem canon_row (g : Fin 240) (w : S8x128.Idx → Elt F .f32) (L : Stores F) (y : S1920x128.Idx) (h : grp y = g) :
    View.canon (⟨rowR g, w⟩ :: L : Stores F) y = w (loc y) := by
  subst h
  have := View.canon_cons_emb (Val := Elt F) (e := .f32) (rowR (grp y)) w L (loc y)
  rwa [row_emb] at this

/-- A store into another row group is not read there. -/
theorem canon_row_ne (g : Fin 240) (w : S8x128.Idx → Elt F .f32) (L : Stores F) (y : S1920x128.Idx) (h : grp y ≠ g) :
    View.canon (⟨rowR g, w⟩ :: L : Stores F) y = View.canon L y :=
  View.canon_cons_of_not_mem (Val := Elt F) (e := .f32) ⟨rowR g, w⟩ L (row_not_mem g y h)

/-- What the stores of the first `n` row groups leave: each stored group its step's value over what the group read,
    every other index what was there before — where each group's read gives a fixed vector as long as the group's own
    rows are as they were before. -/
theorem canon_stores (cn : FVec F S8x512 .f32) (dot : Fin 240 → FVec F S640x512 .f32) (s2 : Fin 240 → Vec F S8x128 .f32)
    (rd1 rd2 : Stores F → Fin 240 → Vec F S8x128 .f32) (I : Stores F × Stores F) (r1 r2 : Fin 240 → Vec F S8x128 .f32)
    (h1 : ∀ L g, (∀ y, grp y = g → View.canon L y = View.canon I.1 y) → rd1 L g = r1 g)
    (h2 : ∀ L g, (∀ y, grp y = g → View.canon L y = View.canon I.2 y) → rd2 L g = r2 g) :
    ∀ n, n ≤ 240 → ∀ y,
      View.canon (stores cn dot s2 rd1 rd2 I n).1 y
        = (if (grp y).val < n then stepM1 cn (dot (grp y)) (s2 (grp y)) (grp y) (r1 (grp y)) (loc y) else View.canon I.1 y)
      ∧ View.canon (stores cn dot s2 rd1 rd2 I n).2 y
        = (if (grp y).val < n then stepM2 cn (dot (grp y)) (s2 (grp y)) (grp y) (r1 (grp y)) (r2 (grp y)) (loc y) else View.canon I.2 y) := by
  intro n
  induction n with
  | zero => intro _ y; simp [stores]
  | succ n ih =>
    intro hn y
    have hlt0 : n < 240 := by omega
    have hg : (Fin.ofNat 240 n).val = n := by rw [Fin.val_ofNat, Nat.mod_eq_of_lt hlt0]
    have e1 : rd1 (stores cn dot s2 rd1 rd2 I n).1 (Fin.ofNat 240 n) = r1 (Fin.ofNat 240 n) := h1 _ _ fun z hz => by
      rw [(ih (by omega) z).1, if_neg (by rw [hz, hg]; omega)]
    have e2 : rd2 (stores cn dot s2 rd1 rd2 I n).2 (Fin.ofNat 240 n) = r2 (Fin.ofNat 240 n) := h2 _ _ fun z hz => by
      rw [(ih (by omega) z).2, if_neg (by rw [hz, hg]; omega)]
    rw [stores, e1, e2]
    by_cases h : grp y = Fin.ofNat 240 n
    · have hlt : (grp y).val < n + 1 := by rw [h, hg]; omega
      rw [if_pos hlt, if_pos hlt, canon_row _ _ _ y h, canon_row _ _ _ y h, shapeCast_self, shapeCast_self, h]
      exact ⟨rfl, rfl⟩
    · rw [canon_row_ne _ _ _ y h, canon_row_ne _ _ _ y h, (ih (by omega) y).1, (ih (by omega) y).2]
      have hne : (grp y).val ≠ n := fun he => h (Fin.ext (he.trans hg.symm))
      have hiff : (grp y).val < n + 1 ↔ (grp y).val < n := by omega
      simp only [hiff, and_self]

end Cert.Proof

end
-- ==== Proof.TwoSmallest.lean ====
/- The two smallest of finitely many extended reals, as a sum: pairs (smallest, second smallest) form a commutative
   monoid under the merge `(min a b, min (max a b) (min a' b'))`, so any order and any grouping of the merges gives
   the same pair; and the pair of a whole family is its minimum with the minimum of what is left. -/
module

public import Mathlib.Data.EReal.Operations
public import Mathlib.Algebra.BigOperators.Fin

@[expose] public section

noncomputable section

namespace Cert.Proof

/-- A smallest and a second smallest value. -/
@[ext] structure Two where
  /-- The smallest. -/
  fst : EReal
  /-- The second smallest. -/
  snd : EReal

namespace Two

/-- The merge of two pairs. -/
instance : Add Two := ⟨fun p q => ⟨min p.fst q.fst, min (max p.fst q.fst) (min p.snd q.snd)⟩⟩

/-- The pair of nothing. -/
instance : Zero Two := ⟨⟨⊤, ⊤⟩⟩

/-- The merged smallest. -/
theorem add_fst (p q : Two) : (p + q).fst = min p.fst q.fst := rfl

/-- The merged second smallest. -/
theorem add_snd (p q : Two) : (p + q).snd = min (max p.fst q.fst) (min p.snd q.snd) := rfl

/-- The smallest of nothing. -/
theorem zero_fst : (0 : Two).fst = ⊤ := rfl

/-- The second smallest of nothing. -/
theorem zero_snd : (0 : Two).snd = ⊤ := rfl

/-- Merging pairs is commutative and associative, and the pair of nothing is neutral. -/
instance : AddCommMonoid Two where
  add_assoc p q r := by
    ext1
    · simp only [add_fst, min_assoc]
    · simp only [add_snd, add_fst, max_min_distrib_left, max_min_distrib_right]
      generalize max p.fst q.fst = a, max p.fst r.fst = b, max q.fst r.fst = c
      ac_rfl
  zero_add p := by
    ext1
    · simp [add_fst, zero_fst]
    · simp [add_snd, zero_fst, zero_snd]
  add_zero p := by
    ext1
    · simp [add_fst, zero_fst]
    · simp [add_snd, zero_fst, zero_snd]
  add_comm p q := by
    ext1
    · simp only [add_fst, min_comm]
    · simp only [add_snd, max_comm p.fst, min_comm p.snd]
  nsmul := nsmulRec

/-- The pair of one value. -/
def one (v : EReal) : Two := ⟨v, ⊤⟩

/-- Merging one more value in, as the kernel does it. -/
theorem add_one (p : Two) (v : EReal) : p + one v = ⟨min p.fst v, min p.snd (max p.fst v)⟩ := by
  ext1
  · rfl
  · simp only [add_snd, one, min_top_right]; exact min_comm _ _

section
variable {ι : Type} [DecidableEq ι]

/-- The smallest of a merged family is the family's infimum. -/
theorem sum_fst (s : Finset ι) (v : ι → EReal) : (∑ i ∈ s, one (v i)).fst = s.inf v := by
  induction s using Finset.induction_on with
  | empty => rfl
  | insert a s ha ih => rw [Finset.sum_insert ha, add_fst, ih, Finset.inf_insert]; rfl

/-- The smallest is at most the second smallest. -/
theorem sum_fst_le_snd (s : Finset ι) (v : ι → EReal) : (∑ i ∈ s, one (v i)).fst ≤ (∑ i ∈ s, one (v i)).snd := by
  induction s using Finset.induction_on with
  | empty => exact le_refl _
  | insert a s ha ih =>
    rw [Finset.sum_insert ha, add_snd, add_fst]
    refine le_min (min_le_max) (le_min ?_ ((min_le_right _ _).trans ih))
    exact le_top

/-- With a least element taken out, the second smallest is the infimum of the rest. -/
theorem sum_snd (s : Finset ι) (v : ι → EReal) (i : ι) (hi : i ∈ s) (hm : ∀ j ∈ s, v i ≤ v j) :
    (∑ i ∈ s, one (v i)).snd = (s.erase i).inf v := by
  rw [← Finset.add_sum_erase s _ hi, add_snd, ← sum_fst]
  have h1 : v i ≤ (∑ j ∈ s.erase i, one (v j)).fst := by
    rw [sum_fst]; exact Finset.le_inf fun j hj => hm j (Finset.mem_of_mem_erase hj)
  show min (max (v i) _) (min ⊤ _) = _
  rw [max_eq_right h1, min_top_left, min_eq_left (sum_fst_le_snd _ _)]

/-- The second smallest as the reference counts it: the minimum again when it is attained twice, and otherwise the
    infimum of the values that differ from it. -/
theorem sum_snd_eq [Fintype ι] [Nonempty ι] (v : ι → EReal) :
    (∑ i, one (v i)).snd =
      if 1 < (Finset.univ.filter fun i => v i = Finset.univ.inf v).card then Finset.univ.inf v
      else Finset.univ.inf fun i => if v i = Finset.univ.inf v then ⊤ else v i := by
  obtain ⟨i, -, hi⟩ := Finset.exists_mem_eq_inf (Finset.univ : Finset ι) Finset.univ_nonempty v
  have hm : ∀ j ∈ (Finset.univ : Finset ι), v i ≤ v j := fun j hj => hi ▸ Finset.inf_le hj
  rw [sum_snd _ v i (Finset.mem_univ i) hm, hi]
  split_ifs with h
  · obtain ⟨a, ha, b, hb, hab⟩ := Finset.one_lt_card.mp h
    apply le_antisymm
    · by_cases hai : a = i
      · have hbi : b ≠ i := fun e => hab (hai.trans e.symm)
        exact (Finset.inf_le (Finset.mem_erase.mpr ⟨hbi, Finset.mem_univ b⟩)).trans (Finset.mem_filter.mp hb).2.le
      · exact (Finset.inf_le (Finset.mem_erase.mpr ⟨hai, Finset.mem_univ a⟩)).trans (Finset.mem_filter.mp ha).2.le
    · exact Finset.le_inf fun j _ => hm j (Finset.mem_univ j)
  · have hu : ∀ j, v j = v i → j = i := fun j hj => by
      by_contra hne
      exact h (Finset.one_lt_card.mpr ⟨j, by simp [hj], i, by simp, hne⟩)
    apply le_antisymm
    · refine Finset.le_inf fun j _ => ?_
      split_ifs with hj
      · exact le_top
      · exact Finset.inf_le (Finset.mem_erase.mpr ⟨fun e => hj (e ▸ rfl), Finset.mem_univ j⟩)
    · refine Finset.le_inf fun j hj => ?_
      have hne : ¬ v j = v i := fun e => (Finset.mem_erase.mp hj).1 (hu j e)
      refine (Finset.inf_le (Finset.mem_univ j)).trans ?_
      rw [if_neg hne]

end

end Two

/-- Adding a constant commutes with the infimum of a nonempty finite family. -/
theorem add_inf {ι : Type} [Fintype ι] [Nonempty ι] (a : EReal) (v : ι → EReal) :
    (Finset.univ.inf fun i => a + v i) = a + Finset.univ.inf v := by
  obtain ⟨i, -, hi⟩ := Finset.exists_mem_eq_inf (Finset.univ : Finset ι) Finset.univ_nonempty v
  apply le_antisymm
  · rw [hi]; exact Finset.inf_le (Finset.mem_univ i)
  · exact Finset.le_inf fun j _ => add_le_add le_rfl (Finset.inf_le (Finset.mem_univ j))

/-- A sum over 8192 codes as 16 blocks of 4 groups of 128 lanes. -/
theorem sum_codes {M : Type} [AddCommMonoid M] (f : ℕ → M) :
    ∑ c : Fin 8192, f c.val
      = ∑ l ∈ Finset.range 128, ∑ n ∈ Finset.range 16, ∑ j ∈ Finset.range 4, f (512 * n + 128 * j + l) := by
  have hm : ∀ (k b : ℕ) (g : ℕ → M),
      ∑ c ∈ Finset.range (k * b), g c = ∑ n ∈ Finset.range k, ∑ l ∈ Finset.range b, g (b * n + l) := by
    intro k b g
    induction k with
    | zero => simp
    | succ k ih => rw [Nat.succ_mul, Finset.sum_range_add, ih, Finset.sum_range_succ, Nat.mul_comm k b]
  rw [Fin.sum_univ_eq_sum_range (fun c => f c) 8192, show 8192 = 16 * 512 from rfl, hm 16 512]
  have h2 : ∀ n ∈ Finset.range 16, ∑ l ∈ Finset.range 512, f (512 * n + l)
      = ∑ l ∈ Finset.range 128, ∑ j ∈ Finset.range 4, f (512 * n + 128 * j + l) := by
    intro n _
    rw [show 512 = 4 * 128 from rfl, hm 4 128 (fun l => f (4 * 128 * n + l)), Finset.sum_comm]
    simp only [Nat.add_assoc]
  rw [Finset.sum_congr rfl h2, Finset.sum_comm]

end Cert.Proof

end
-- ==== Proof.Steps.lean ====
/- One grid point over the extended reals: the pair of each token and lane after the point is the pair before it with the
   four codes of the point's block merged in. -/
module

public import proofs.«01_k».proof.Proof.Scan
public import proofs.«01_k».proof.Proof.TwoSmallest
public import Idealize.ShloMosaic.Lib.Pointwise

@[expose] public section
noncomputable section
namespace Cert.Proof
open Cert.KernelIdeal Cert.KernelIdeal.Gen Idealize.ShloMosaic Idealize.ShloMosaic.TcCoe

/-- The constant 2. -/
theorem bits_two : Ideal.ofBits .f32 0x40000000#32 = (2 : EReal) := by
  simp [Ideal.ofBits, Ideal.ieee]
  norm_num
  rw [← EReal.coe_mul]
  norm_num
  rfl

/-- The constant +∞. -/
theorem bits_inf : Ideal.ofBits .f32 0x7F800000#32 = (⊤ : EReal) := by
  simp [Ideal.ofBits, Ideal.ieee]

/-- The body's code norms. -/
theorem pay229_apply (v0 : Vec Ideal S1x512 .f32) (v6 : Vec Ideal S512x512 .fp8e4m3) (r : Fin 8) (c : Fin 512) :
    k0_pay229 v0 v6 (ix2 r c) = ∑ k : Fin 512, ((v0 (ix2 0 k) : EReal) * v0 (ix2 0 k)) * ((v6 (ix2 c k) : EReal) * v6 (ix2 c k)) := by
  pointwise [k0_pay229, k0_pay226]

/-- The body's products of tokens with codes. -/
theorem pay230_apply (a : Vec Ideal S640x512 .bf16) (b : Vec Ideal S512x512 .fp8e4m3) (r : Fin 640) (c : Fin 512) :
    k0_pay230 a b (ix2 r c) = ∑ k : Fin 512, (a (ix2 r k) : EReal) * b (ix2 c k) := by
  pointwise [k0_pay230]

/-- The scaled tokens. -/
theorem pay5_apply (v : Vec Ideal S1x512 .f32) (x : Vec Ideal S1920x512 .fp8e4m3) (r : Fin 1920) (k : Fin 512) :
    k0_pay5 (k0_pay226 v) x (ix2 r k) = (x (ix2 r k) : EReal) * v (ix2 0 k) := by
  pointwise [k0_pay5, k0_pay226]

/-- A band of doubled token scales, each in its token's row. -/
theorem pay6_apply (v : Vec Ideal S1x128 .f32) (r c : Fin 128) :
    k0_pay6 v (ix2 r c) = 2 * (v (ix2 0 r) : EReal) := by
  pointwise [k0_pay6, bits_two]

/-- The smallest values start at infinity. -/
theorem pay227_apply (y : S1920x128.Idx) : k0_pay227 (k0_pay21 (F := Ideal)) y = (⊤ : EReal) := by
  pointwise [k0_pay227, k0_pay21, bits_inf]

/-- The second smallest values start at infinity. -/
theorem pay228_apply (y : S1920x128.Idx) : k0_pay228 (F := Ideal) y = (⊤ : EReal) := by
  pointwise [k0_pay228, bits_inf]

/-- The squared norms of a band of token codes. -/
theorem norm_apply (v : Vec Ideal S128x512 .fp8e4m3) (c : Fin 128) :
    normOf v (ix2 0 c) = ∑ k : Fin 512, 1 * ((v (ix2 c k) : EReal) * v (ix2 c k)) := by
  pointwise [normOf, k0_pay22]

/-- A turned band, read. -/
theorem turned_apply (v : Vec Ideal S128x128 .f32) (r c : Fin 128) : turned v (ix2 r c) = v (ix2 c r) := by
  pointwise [turned]

/-- A shifted distance, read. -/
theorem dist_apply (cn : FVec Ideal S8x512 .f32) (dot : FVec Ideal S640x512 .f32) (s2 : Vec Ideal S8x128 .f32) (g : Fin 240) (j : Fin 4) (r : Fin 8) (l : Fin 128) :
    dist cn dot s2 g j (ix2 r l) = (cn (ix2 r ⟨128 * j.val + l.val, by omega⟩) : EReal) - s2 (ix2 r l) * dot (ix2 ⟨8 * (g.val % 80) + r.val, by omega⟩ ⟨128 * j.val + l.val, by omega⟩) := by
  pointwise [dist]

/-- The lower half's index. -/
theorem lo_idx (h : ℕ) (r : Fin h) (c : Fin 128) (hr : r.val < 2 * h) :
    (fun a => ⟨(![0, 0] : Fin 2 → ℕ) a + ((ix2 r c : (Rows h).Idx) ⟨a.val, a.isLt⟩).val, by
      match a with
      | ⟨0, _⟩ => show 0 + r.val < 2 * h; omega
      | ⟨1, _⟩ => show 0 + c.val < 128; omega⟩ : (Rows (2 * h)).Idx) = ix2 ⟨r.val, hr⟩ c := by
  funext a; apply Fin.ext
  match a with
  | ⟨0, _⟩ => show 0 + r.val = r.val; omega
  | ⟨1, _⟩ => show 0 + c.val = c.val; omega

/-- The upper half's index. -/
theorem hi_idx (h : ℕ) (r : Fin h) (c : Fin 128) (hr : h + r.val < 2 * h) :
    (fun a => ⟨(![h, 0] : Fin 2 → ℕ) a + ((ix2 r c : (Rows h).Idx) ⟨a.val, a.isLt⟩).val, by
      match a with
      | ⟨0, _⟩ => show h + r.val < 2 * h; omega
      | ⟨1, _⟩ => show 0 + c.val < 128; omega⟩ : (Rows (2 * h)).Idx) = ix2 ⟨h + r.val, hr⟩ c := by
  funext a; apply Fin.ext
  match a with
  | ⟨0, _⟩ => rfl
  | ⟨1, _⟩ => show 0 + c.val = c.val; omega

/-- A halving of the smallest values, read. -/
theorem half1_apply (h : ℕ) (a : FVec Ideal (Rows (2 * h)) .f32) (r : Fin h) (c : Fin 128) :
    half1 h a (ix2 r c) = min (a (ix2 ⟨r.val, by omega⟩ c) : EReal) (a (ix2 ⟨h + r.val, by omega⟩ c)) := by
  rw [← lo_idx, ← hi_idx]; rfl

/-- A halving of the second smallest values, read. -/
theorem half2_apply (h : ℕ) (a b : FVec Ideal (Rows (2 * h)) .f32) (r : Fin h) (c : Fin 128) :
    half2 h a b (ix2 r c) = min (max (a (ix2 ⟨r.val, by omega⟩ c) : EReal) (a (ix2 ⟨h + r.val, by omega⟩ c)))
      (min (b (ix2 ⟨r.val, by omega⟩ c) : EReal) (b (ix2 ⟨h + r.val, by omega⟩ c))) := by
  rw [← lo_idx, ← hi_idx]; rfl

/-! ## The mathematics: codes, norms, products, shifted distances -/

/-- The squared norm of scaled code `c`. -/
def cnS (C : S8192x512.Idx → EReal) (w : Fin 512 → EReal) (c : Fin 8192) : EReal := ∑ k : Fin 512, (C (ix2 c k) * w k) * (C (ix2 c k) * w k)

/-- The product of token `t` with scaled code `c`. -/
def dotS (X : S1920x512.Idx → EReal) (C : S8192x512.Idx → EReal) (w : Fin 512 → EReal) (t : Fin 1920) (c : Fin 8192) : EReal :=
  ∑ k : Fin 512, X (ix2 t k) * (C (ix2 c k) * w k)

/-- The distance of token `t` to code `c` less the token's own squared norm. -/
def vS (X : S1920x512.Idx → EReal) (s : Fin 1920 → EReal) (C : S8192x512.Idx → EReal) (w : Fin 512 → EReal) (t : Fin 1920) (c : Fin 8192) : EReal :=
  cnS C w c - 2 * (s t * dotS X C w t c)

/-- The code of block `n`, group `j`, lane `l`. -/
def cd (n j l : ℕ) : Fin 8192 := Fin.ofNat 8192 (512 * n + 128 * j + l)

section
variable (X : S1920x512.Idx → EReal) (s : Fin 1920 → EReal) (C : S8192x512.Idx → EReal) (w : Fin 512 → EReal)

/-- The body's shifted distance is the shifted distance of its token and code. -/
theorem dist_eq (n : ℕ) (hn : n < 16) (x2 : Vec Ideal S512x512 .fp8e4m3) (x3 : Vec Ideal S1x512 .f32) (rows : Vec Ideal S640x512 .bf16) (s2 : Vec Ideal S8x128 .f32)
    (g : Fin 240) (j : Fin 4) (r : Fin 8) (l : Fin 128) (t : Fin 1920) (ht : t.val = 8 * g.val + r.val)
    (hx2 : ∀ (a : Fin 512) (k : Fin 512), x2 (ix2 a k) = C (ix2 ⟨512 * n + a.val, by omega⟩ k)) (hx3 : ∀ k : Fin 512, x3 (ix2 0 k) = w k)
    (hrows : ∀ (a : Fin 640) (k : Fin 512), rows (ix2 a k) = X (ix2 ⟨640 * (g.val / 80) + a.val, by omega⟩ k) * w k)
    (hs2 : s2 (ix2 r l) = 2 * s t) :
    dist (k0_pay229 x3 x2) (k0_pay230 rows x2) s2 g j (ix2 r l) = vS X s C w t (cd n j.val l.val) := by
  have hc : (⟨512 * n + (128 * j.val + l.val), by omega⟩ : Fin 8192) = cd n j.val l.val := by
    apply Fin.ext; rw [cd, Fin.val_ofNat, Nat.mod_eq_of_lt (by omega)]; show 512 * n + (128 * j.val + l.val) = _; omega
  have htt : (⟨640 * (g.val / 80) + (8 * (g.val % 80) + r.val), by omega⟩ : Fin 1920) = t := by
    apply Fin.ext; show 640 * (g.val / 80) + (8 * (g.val % 80) + r.val) = t.val; omega
  rw [dist_apply, pay229_apply, pay230_apply, hs2]
  simp only [hx2, hx3, hrows]
  rw [hc, htt, vS, cnS, dotS, mul_assoc]
  congr 1
  · exact Finset.sum_congr rfl fun k _ => by rw [mul_mul_mul_comm (C _), mul_comm]
  · congr 2
    exact Finset.sum_congr rfl fun k _ => by rw [mul_assoc, mul_comm (w k)]

/-- A step of the body merges the point's four values of the lane in. -/
theorem step_eq (cn : FVec Ideal S8x512 .f32) (dot : FVec Ideal S640x512 .f32) (s2 : Vec Ideal S8x128 .f32) (g : Fin 240) (m1 m2 : Vec Ideal S8x128 .f32) (i : S8x128.Idx)
    (v : ℕ → EReal) (hv : ∀ j : Fin 4, dist cn dot s2 g j i = v j.val) :
    (⟨stepM1 cn dot s2 g m1 i, stepM2 cn dot s2 g m1 m2 i⟩ : Two) = ⟨m1 i, m2 i⟩ + ∑ j ∈ Finset.range 4, Two.one (v j) := by
  have h0 := hv 0; have h1 := hv 1; have h2 := hv 2; have h3 := hv 3
  simp only [Finset.sum_range_succ, Finset.sum_range_zero, zero_add, ← add_assoc]
  rw [Two.add_one, Two.add_one, Two.add_one, Two.add_one, ← show dist cn dot s2 g 0 i = v 0 from h0, ← show dist cn dot s2 g 1 i = v 1 from h1, ← show dist cn dot s2 g 2 i = v 2 from h2, ← show dist cn dot s2 g 3 i = v 3 from h3]
  rfl

/-- A point's stores merge the four codes of each lane into the pair the point found there. -/
theorem scan (n : ℕ) (hn : n < 16) (x2 : Vec Ideal S512x512 .fp8e4m3) (x3 : Vec Ideal S1x512 .f32) (rows : Fin 240 → Vec Ideal S640x512 .bf16) (s2 : Fin 240 → Vec Ideal S8x128 .f32)
    (rd1 rd2 : Stores Ideal → Fin 240 → Vec Ideal S8x128 .f32) (I : Stores Ideal × Stores Ideal) (r1 r2 : Fin 240 → Vec Ideal S8x128 .f32)
    (h1 : ∀ L g, (∀ y, grp y = g → View.canon L y = View.canon I.1 y) → rd1 L g = r1 g)
    (h2 : ∀ L g, (∀ y, grp y = g → View.canon L y = View.canon I.2 y) → rd2 L g = r2 g)
    (hx2 : ∀ (a : Fin 512) (k : Fin 512), x2 (ix2 a k) = C (ix2 ⟨512 * n + a.val, by omega⟩ k)) (hx3 : ∀ k : Fin 512, x3 (ix2 0 k) = w k)
    (hrows : ∀ (g : Fin 240) (a : Fin 640) (k : Fin 512), rows g (ix2 a k) = X (ix2 ⟨640 * (g.val / 80) + a.val, by omega⟩ k) * w k)
    (hs2 : ∀ (g : Fin 240) (r : Fin 8) (l : Fin 128), s2 g (ix2 r l) = 2 * s ⟨8 * g.val + r.val, by omega⟩) (t : Fin 1920) (l : Fin 128) :
    (⟨View.canon (stores (k0_pay229 x3 x2) (fun g => k0_pay230 (rows g) x2) s2 rd1 rd2 I 240).1 (ix2 t l),
      View.canon (stores (k0_pay229 x3 x2) (fun g => k0_pay230 (rows g) x2) s2 rd1 rd2 I 240).2 (ix2 t l)⟩ : Two)
    = ⟨r1 (grp (ix2 t l)) (loc (ix2 t l)), r2 (grp (ix2 t l)) (loc (ix2 t l))⟩ + ∑ j ∈ Finset.range 4, Two.one (vS X s C w t (cd n j l.val)) := by
  have h := canon_stores (k0_pay229 x3 x2) (fun g => k0_pay230 (rows g) x2) s2 rd1 rd2 I r1 r2 h1 h2 240 (le_refl _) (ix2 t l)
  rw [if_pos (grp (ix2 t l)).isLt, if_pos (grp (ix2 t l)).isLt] at h
  rw [h.1, h.2]
  refine step_eq _ _ _ _ _ _ _ (fun j => vS X s C w t (cd n j l.val)) fun j => ?_
  have htt : t.val = 8 * (t.val / 8) + t.val % 8 := by omega
  refine dist_eq X s C w n hn x2 x3 _ _ _ j ⟨t.val % 8, by omega⟩ l t htt hx2 hx3 (hrows _) ?_
  refine (hs2 _ _ _).trans ?_
  congr 2
  exact Fin.ext htt.symm

end

end Cert.Proof
end
-- ==== Proof.Bands.lean ====
/- The last point's halvings and the bands of 128 tokens, over the extended reals. -/
module

public import proofs.«01_k».proof.Proof.Steps

@[expose] public section

noncomputable section

namespace Cert.Proof

open Cert.KernelIdeal Cert.KernelIdeal.Gen Idealize.ShloMosaic Idealize.ShloMosaic.TcCoe

/-- Row `i` merged with row `h + i`. -/
def halve (h : ℕ) (p : ℕ → Fin 128 → Two) (i : ℕ) (c : Fin 128) : Two := p i c + p (h + i) c

/-- One halving merges row `i` with row `h + i`. -/
theorem half_add (h : ℕ) (a b : FVec Ideal (Rows (2 * h)) .f32) (p : ℕ → Fin 128 → Two)
    (hp : ∀ (i : Fin (2 * h)) (c : Fin 128), (⟨a (ix2 i c), b (ix2 i c)⟩ : Two) = p i.val c) (i : Fin h) (c : Fin 128) :
    (⟨half1 h a (ix2 i c), half2 h a b (ix2 i c)⟩ : Two) = halve h p i.val c := by
  rw [halve, half1_apply, half2_apply, ← hp ⟨i.val, by omega⟩ c, ← hp ⟨h + i.val, by omega⟩ c]
  rfl

/-- The merge of the merged halves is the merge of all. -/
theorem sum_halve (h : ℕ) (p : ℕ → Fin 128 → Two) (c : Fin 128) : ∑ i ∈ Finset.range h, halve h p i c = ∑ i ∈ Finset.range (2 * h), p i c := by
  rw [two_mul, Finset.sum_range_add, ← Finset.sum_add_distrib]
  rfl

/-- Seven halvings merge the 128 lanes. -/
theorem tree_eq (a b : FVec Ideal (Rows 128) .f32) (p : ℕ → Fin 128 → Two)
    (hp : ∀ (i : Fin 128) (c : Fin 128), (⟨a (ix2 i c), b (ix2 i c)⟩ : Two) = p i.val c) (c : Fin 128) :
    (⟨tree1 a (ix2 0 c), tree2 a b (ix2 0 c)⟩ : Two) = ∑ l ∈ Finset.range 128, p l c := by
  have h6 := half_add 64 a b p hp
  have h5 := half_add 32 _ _ (halve 64 p) h6
  have h4 := half_add 16 _ _ (halve 32 (halve 64 p)) h5
  have h3 := half_add 8 _ _ (halve 16 (halve 32 (halve 64 p))) h4
  have h2 := half_add 4 _ _ (halve 8 (halve 16 (halve 32 (halve 64 p)))) h3
  have h1 := half_add 2 _ _ (halve 4 (halve 8 (halve 16 (halve 32 (halve 64 p))))) h2
  have h0 := half_add 1 _ _ (halve 2 (halve 4 (halve 8 (halve 16 (halve 32 (halve 64 p)))))) h1 0 c
  refine h0.trans ?_
  rw [← sum_halve 64, ← sum_halve 32, ← sum_halve 16, ← sum_halve 8, ← sum_halve 4, ← sum_halve 2, ← sum_halve 1, Finset.sum_range_one]
  rfl

section
variable {F : FTy → Type} [FloatOps F]

/-- What fifteen stores into fifteen separate bands leave: each index holds its own band's value. -/
theorem canon_bands {S : Shape} {e : EltTy} (R : Fin 15 → Rect S) (v : ∀ b, (R b).shape.Idx → Elt F e) (L : ℕ → List (View.Piece (Elt F) S e))
    (hL : ∀ n, L (n + 1) = ⟨R (Fin.ofNat 15 n), v (Fin.ofNat 15 n)⟩ :: L n) (bd : S.Idx → Fin 15) (pl : S.Idx → ∀ b, (R b).shape.Idx)
    (he : ∀ y, (R (bd y)).emb (pl y (bd y)) = y) (hne : ∀ b y, bd y ≠ b → y ∉ (R b).set) :
    ∀ n, n ≤ 15 → ∀ y, (bd y).val < n → View.canon (L n) y = v (bd y) (pl y (bd y)) := by
  intro n
  induction n with
  | zero => intro _ y h; omega
  | succ n ih =>
    intro hn y hy
    have hlt : n < 15 := by omega
    have hv : (Fin.ofNat 15 n).val = n := by rw [Fin.val_ofNat, Nat.mod_eq_of_lt hlt]
    rw [hL]
    by_cases h : bd y = Fin.ofNat 15 n
    · rw [← h]
      have := View.canon_cons_emb (Val := Elt F) (e := e) (R (bd y)) (v (bd y)) (L n) (pl y (bd y))
      rwa [he] at this
    · rw [View.canon_cons_of_not_mem (Val := Elt F) (e := e) ⟨R (Fin.ofNat 15 n), v (Fin.ofNat 15 n)⟩ (L n) (hne _ y h)]
      exact ih (by omega) y (by have : (bd y).val ≠ n := fun e => h (Fin.ext (e.trans hv.symm)); omega)

/-- A token's band. -/
def bandOf (y : S1920x128.Idx) : Fin 15 := ⟨(y 0).val / 128, by have h : (y 0).val < 1920 := (y 0).isLt; omega⟩

/-- A (batch, sequence) index's band. -/
def outBand (y : S3x640.Idx) : Fin 15 := ⟨5 * (y 0).val + (y 1).val / 128, by have h : (y 0).val < 3 := (y 0).isLt; have h' : (y 1).val < 640 := (y 1).isLt; omega⟩

/-- Fifteen stores into the bands of a token-by-lane buffer. -/
theorem canon_bandR (v : Fin 15 → Vec F S128x128 .f32) (L : ℕ → Stores F)
    (hL : ∀ n, L (n + 1) = ⟨bandR (Fin.ofNat 15 n), v (Fin.ofNat 15 n)⟩ :: L n) (t : Fin 1920) (l : Fin 128) :
    View.canon (L 15) (ix2 t l) = v ⟨t.val / 128, by omega⟩ (ix2 ⟨t.val % 128, by omega⟩ l) := by
  refine canon_bands (F := F) bandR v L hL bandOf (fun y _ => (ix2 ⟨(y 0).val % 128, by omega⟩ ⟨(y 1).val, (y 1).isLt⟩ : S128x128.Idx)) ?_ ?_ 15 (le_refl _) (ix2 t l) (bandOf _).isLt
  · intro y
    funext a; apply Fin.ext
    match a with
    | ⟨0, _⟩ => show 128 * ((y 0).val / 128) + 1 * ((y 0).val % 128) = (y 0).val; omega
    | ⟨1, _⟩ => show 0 + 1 * (y 1).val = (y 1).val; omega
  · intro b y h hm
    apply h; apply Fin.ext
    have h0 := Rect.mem_set_unit.mp hm 0
    have h1 : 128 * b.val ≤ (y 0).val := h0.1
    have h2 : (y 0).val < 128 * b.val + 128 := h0.2
    show (y 0).val / 128 = b.val
    omega

/-- Fifteen stores into the bands of a (batch, sequence) array. -/
theorem canon_outR (v : Fin 15 → Vec F S1x128 .f32) (L : ℕ → List (View.Piece (Elt F) S3x640 .f32))
    (hL : ∀ n, L (n + 1) = ⟨outR (Fin.ofNat 15 n), v (Fin.ofNat 15 n)⟩ :: L n) (a : Fin 3) (q : Fin 640) :
    View.canon (L 15) (ix2 a q) = v ⟨5 * a.val + q.val / 128, by omega⟩ (ix2 0 ⟨q.val % 128, by omega⟩) := by
  refine canon_bands (F := F) outR v L hL outBand (fun y _ => (ix2 0 ⟨(y 1).val % 128, by omega⟩ : S1x128.Idx)) ?_ ?_ 15 (le_refl _) (ix2 a q) (outBand _).isLt
  · intro y
    have hy : (y 1).val < 640 := (y 1).isLt
    funext a; apply Fin.ext
    match a with
    | ⟨0, _⟩ => show (5 * (y 0).val + (y 1).val / 128) / 5 + 1 * 0 = (y 0).val; omega
    | ⟨1, _⟩ => show 128 * ((5 * (y 0).val + (y 1).val / 128) % 5) + 1 * ((y 1).val % 128) = (y 1).val; omega
  · intro b y h hm
    apply h; apply Fin.ext
    have h0 := Rect.mem_set_unit.mp hm 0
    have h0' := Rect.mem_set_unit.mp hm 1
    have h1 : b.val / 5 ≤ (y 0).val := h0.1
    have h2 : (y 0).val < b.val / 5 + 1 := h0.2
    have h3 : 128 * (b.val % 5) ≤ (y 1).val := h0'.1
    have h4 : (y 1).val < 128 * (b.val % 5) + 128 := h0'.2
    show 5 * (y 0).val + (y 1).val / 128 = b.val
    omega

end

section
variable (arg1 : Memref sig .tc .vmem S1920x512 .fp8e4m3) (harg1 : arg1.IsWhole) (arg2 : Memref sig .tc .vmem S3x640 .f32) (harg2 : arg2.IsWhole)
  (arg3 : Memref sig .tc .vmem S512x512 .fp8e4m3) (harg3 : arg3.IsWhole) (arg4 : Memref sig .tc .vmem S1x512 .f32) (harg4 : arg4.IsWhole)
  (arg7 : Memref sig .tc .vmem S1920x512 .bf16) (harg7 : arg7.IsWhole) (arg8 : Memref sig .tc .vmem S1920x128 .f32) (harg8 : arg8.IsWhole)
  (arg9 : Memref sig .tc .vmem S1920x128 .f32) (harg9 : arg9.IsWhole) (arg10 : Memref sig .tc .vmem S1920x128 .f32) (harg10 : arg10.IsWhole)
  (x0 : Vec Ideal S1920x512 .fp8e4m3) (x1 : Vec Ideal S3x640 .f32) (x2 : Vec Ideal S512x512 .fp8e4m3) (x3 : Vec Ideal S1x512 .f32)
  (xs0 : Vec Ideal S1920x512 .bf16) (xs1 xs2 xs3 : Vec Ideal S1920x128 .f32)

/-- Two zero offsets. -/
theorem zeros2 : (![0, 0] : Fin 2 → ℕ) = fun _ => 0 := funext fun a => by fin_cases a <;> rfl

/-- The body's code norms are the payload's at the loaded blocks. -/
theorem cnOf_eq : cnOf arg3 harg3 arg4 harg4 x2 x3 = k0_pay229 x3 x2 := by
  rw [cnOf, View.readAt_eq_ld, View.readAt_eq_ld, harg3.read_unread, harg4.read_unread, View.ld_unit_zero zeros2, View.ld_unit_zero zeros2]

/-- The body's products are the payload's at the loaded block. -/
theorem dotOf_eq (rows : Vec Ideal S640x512 .bf16) : dotOf arg3 harg3 x2 rows = k0_pay230 rows x2 := by
  rw [dotOf, View.readAt_eq_ld, harg3.read_unread, View.ld_unit_zero zeros2]

/-- The token scales of a band, as loaded. -/
theorem scale_read (b : Fin 15) (q : Fin 128) :
    View.readAt (Elt Ideal) arg2.view (outR b).toLoadRect (harg2.unread x1) (ix2 0 q) = x1 (ix2 ⟨b.val / 5, by omega⟩ ⟨128 * (b.val % 5) + q.val, by omega⟩) := by
  rw [View.readAt_eq_ld, harg2.read_unread]
  refine congrArg x1 ?_
  funext a; apply Fin.ext
  match a with
  | ⟨0, _⟩ => rfl
  | ⟨1, _⟩ => show 128 * (b.val % 5) + 1 * q.val = 128 * (b.val % 5) + q.val; omega

/-- The first point leaves twice the token's scale in every lane. -/
theorem scales_left (t : Fin 1920) (l : Fin 128) :
    View.canon (scaleStores arg2 harg2 x1 15) (ix2 t l) = 2 * (x1 (ix2 ⟨t.val / 640, by omega⟩ ⟨t.val % 640, by omega⟩) : EReal) := by
  refine (canon_bandR (fun b => k0_pay6 (View.readAt (Elt Ideal) arg2.view (outR b).toLoadRect (harg2.unread x1))) (scaleStores arg2 harg2 x1) (fun n => rfl) t l).trans ?_
  rw [pay6_apply, scale_read]
  congr 3
  · exact Fin.ext (show t.val / 128 / 5 = t.val / 640 by omega)
  · exact Fin.ext (show 128 * (t.val / 128 % 5) + t.val % 128 = t.val % 640 by omega)

/-- The first point leaves the tokens times the code scales. -/
theorem tokens_left (t : Fin 1920) (k : Fin 512) :
    View.canon (tokenStores arg1 harg1 arg4 harg4 x0 x3) (ix2 t k) = (x0 (ix2 t k) : EReal) * x3 (ix2 0 k) := by
  rw [tokenStores, View.canon_unit_zero zeros2, View.readAt_eq_ld, View.readAt_eq_ld, harg1.read_unread, harg4.read_unread, View.ld_unit_zero zeros2, View.ld_unit_zero zeros2, pay5_apply]

end

end Cert.Proof

end
-- ==== Proof.Points.lean ====
/- What each kind of grid point leaves, over the extended reals. -/
module

public import proofs.«01_k».proof.Proof.Bands

@[expose] public section

noncomputable section

namespace Cert.Proof

open Cert.KernelIdeal Cert.KernelIdeal.Gen Idealize.ShloMosaic Idealize.ShloMosaic.TcCoe

/-- The smallest pair of a token, read off a band of stores by the seven halvings, is the merge of its 128 lanes. -/
theorem band_pair (arg9 arg10 : Memref sig .tc .vmem S1920x128 .f32) (L1 L2 : Stores Ideal) (Q : Fin 1920 → ℕ → Two)
    (hQ : ∀ (t : Fin 1920) (l : Fin 128), (⟨View.canon L1 (ix2 t l), View.canon L2 (ix2 t l)⟩ : Two) = Q t l.val) (b : Fin 15) (q : Fin 128) :
    (⟨tree1 (turned (arg9.view.readCov L1 (bandR b).toLoadRect)) (ix2 0 q),
      tree2 (turned (arg9.view.readCov L1 (bandR b).toLoadRect)) (turned (arg10.view.readCov L2 (bandR b).toLoadRect)) (ix2 0 q)⟩ : Two)
      = ∑ l ∈ Finset.range 128, Q ⟨128 * b.val + q.val, by omega⟩ l := by
  refine tree_eq _ _ (fun l c => Q ⟨128 * b.val + c.val, by omega⟩ l) (fun i c => ?_) q
  have e : (bandR b).toLoadRect.idx (ix2 c i : S128x128.Idx) = ix2 (⟨128 * b.val + c.val, by omega⟩ : Fin 1920) i := by
    funext a; apply Fin.ext
    match a with
    | ⟨0, _⟩ => show 128 * b.val + 1 * c.val = 128 * b.val + c.val; omega
    | ⟨1, _⟩ => show 0 + 1 * i.val = i.val; omega
  rw [turned_apply, turned_apply, View.readCov_eq_canon', View.readCov_eq_canon']
  show (⟨View.canon L1 ((bandR b).toLoadRect.idx (ix2 c i : S128x128.Idx)), View.canon L2 ((bandR b).toLoadRect.idx (ix2 c i : S128x128.Idx))⟩ : Two) = _
  rw [e]
  exact hQ _ i

section
variable (X : S1920x512.Idx → EReal) (s : Fin 1920 → EReal) (C : S8192x512.Idx → EReal) (w : Fin 512 → EReal)
variable (arg1 : Memref sig .tc .vmem S1920x512 .fp8e4m3) (harg1 : arg1.IsWhole) (arg2 : Memref sig .tc .vmem S3x640 .f32) (harg2 : arg2.IsWhole)
  (arg3 : Memref sig .tc .vmem S512x512 .fp8e4m3) (harg3 : arg3.IsWhole) (arg4 : Memref sig .tc .vmem S1x512 .f32) (harg4 : arg4.IsWhole)
  (arg7 : Memref sig .tc .vmem S1920x512 .bf16) (harg7 : arg7.IsWhole) (arg8 : Memref sig .tc .vmem S1920x128 .f32) (harg8 : arg8.IsWhole)
  (arg9 : Memref sig .tc .vmem S1920x128 .f32) (harg9 : arg9.IsWhole) (arg10 : Memref sig .tc .vmem S1920x128 .f32) (harg10 : arg10.IsWhole)
  (x0 : Vec Ideal S1920x512 .fp8e4m3) (x1 : Vec Ideal S3x640 .f32) (x2 : Vec Ideal S512x512 .fp8e4m3) (x3 : Vec Ideal S1x512 .f32)
  (xs0 : Vec Ideal S1920x512 .bf16) (xs1 xs2 xs3 : Vec Ideal S1920x128 .f32)

/-- An index of the 640 tokens of a row group. -/
theorem blk_idx (g : Fin 240) (a : Fin 640) (k : Fin 512) :
    (blkR g).toLoadRect.idx (ix2 a k : S640x512.Idx) = ix2 (⟨640 * (g.val / 80) + a.val, by omega⟩ : Fin 1920) k := by
  funext x; apply Fin.ext
  match x with
  | ⟨0, _⟩ => show 640 * (g.val / 80) + 1 * a.val = 640 * (g.val / 80) + a.val; omega
  | ⟨1, _⟩ => show 0 + 1 * k.val = k.val; omega

/-- An index of a row group. -/
theorem row_idx (g : Fin 240) (r : Fin 8) (l : Fin 128) :
    (rowR g).toLoadRect.idx (ix2 r l : S8x128.Idx) = ix2 (⟨8 * g.val + r.val, by omega⟩ : Fin 1920) l := by
  funext x; apply Fin.ext
  match x with
  | ⟨0, _⟩ => show 8 * g.val + 1 * r.val = 8 * g.val + r.val; omega
  | ⟨1, _⟩ => show 0 + 1 * l.val = l.val; omega

/-- A middle or last point merges its block's codes into the pair it found. -/
theorem scanBC (n : ℕ) (hn : n < 16) (hx2 : ∀ (a : Fin 512) (k : Fin 512), x2 (ix2 a k) = C (ix2 ⟨512 * n + a.val, by omega⟩ k)) (hx3 : ∀ k : Fin 512, x3 (ix2 0 k) = w k)
    (hxs0 : ∀ (t : Fin 1920) (k : Fin 512), xs0 (ix2 t k) = X (ix2 t k) * w k) (hxs1 : ∀ (t : Fin 1920) (l : Fin 128), xs1 (ix2 t l) = 2 * s t) (t : Fin 1920) (l : Fin 128) :
    (⟨View.canon (storesBC arg3 harg3 arg4 harg4 arg7 harg7 arg8 harg8 arg9 harg9 arg10 harg10 x2 x3 xs0 xs1 xs2 xs3).1 (ix2 t l),
      View.canon (storesBC arg3 harg3 arg4 harg4 arg7 harg7 arg8 harg8 arg9 harg9 arg10 harg10 x2 x3 xs0 xs1 xs2 xs3).2 (ix2 t l)⟩ : Two)
    = ⟨xs2 (ix2 t l), xs3 (ix2 t l)⟩ + ∑ j ∈ Finset.range 4, Two.one (vS X s C w t (cd n j l.val)) := by
  have e := scan X s C w n hn x2 x3 (fun g => View.readAt (Elt Ideal) arg7.view (blkR g).toLoadRect (harg7.unread xs0))
    (fun g => View.readAt (Elt Ideal) arg8.view (rowR g).toLoadRect (harg8.unread xs1))
    (fun _ g => View.readAt (Elt Ideal) arg9.view (rowR g).toLoadRect (harg9.unread xs2))
    (fun _ g => View.readAt (Elt Ideal) arg10.view (rowR g).toLoadRect (harg10.unread xs3)) ([], [])
    (fun g => View.readAt (Elt Ideal) arg9.view (rowR g).toLoadRect (harg9.unread xs2))
    (fun g => View.readAt (Elt Ideal) arg10.view (rowR g).toLoadRect (harg10.unread xs3))
    (fun _ _ _ => rfl) (fun _ _ _ => rfl) hx2 hx3
    (fun g a k => by
      rw [View.readAt_eq_ld, harg7.read_unread]
      show xs0 ((blkR g).toLoadRect.idx (ix2 a k : S640x512.Idx)) = _
      rw [blk_idx, hxs0])
    (fun g r l => by
      rw [View.readAt_eq_ld, harg8.read_unread]
      show xs1 ((rowR g).toLoadRect.idx (ix2 r l : S8x128.Idx)) = _
      rw [row_idx, hxs1]) t l
  simp only [storesBC, cnOf_eq, dotOf_eq]
  refine e.trans ?_
  congr 1
  rw [View.readAt_eq_ld, View.readAt_eq_ld, harg9.read_unread, harg10.read_unread]
  show (⟨xs2 ((rowR (grp (ix2 t l))).emb (loc (ix2 t l))), xs3 ((rowR (grp (ix2 t l))).emb (loc (ix2 t l)))⟩ : Two) = _
  rw [row_emb]

/-- The first point leaves the pair of its block's codes. -/
theorem scanA (hx2 : ∀ (a : Fin 512) (k : Fin 512), x2 (ix2 a k) = C (ix2 ⟨512 * 0 + a.val, by omega⟩ k)) (hx3 : ∀ k : Fin 512, x3 (ix2 0 k) = w k)
    (hx0 : ∀ (t : Fin 1920) (k : Fin 512), x0 (ix2 t k) = X (ix2 t k))
    (hx1 : ∀ t : Fin 1920, x1 (ix2 ⟨t.val / 640, by omega⟩ ⟨t.val % 640, by omega⟩) = s t) (t : Fin 1920) (l : Fin 128) :
    (⟨View.canon (storesA arg1 harg1 arg2 harg2 arg3 harg3 arg4 harg4 arg7 arg8 arg9 arg10 x0 x1 x2 x3).1 (ix2 t l),
      View.canon (storesA arg1 harg1 arg2 harg2 arg3 harg3 arg4 harg4 arg7 arg8 arg9 arg10 x0 x1 x2 x3).2 (ix2 t l)⟩ : Two)
    = ∑ j ∈ Finset.range 4, Two.one (vS X s C w t (cd 0 j l.val)) := by
  have e := scan X s C w 0 (by omega) x2 x3 (fun g => arg7.view.readCov (tokenStores arg1 harg1 arg4 harg4 x0 x3) (blkR g).toLoadRect)
    (fun g => arg8.view.readCov (scaleStores arg2 harg2 x1 15) (rowR g).toLoadRect)
    (fun L g => arg9.view.readCov L (rowR g).toLoadRect)
    (fun L g => arg10.view.readCov L (rowR g).toLoadRect)
    ([⟨Rect.unit (s := S1920x128) ![0, 0] S1920x128.size inb_S1920x128_S1920x128_0_0, k0_pay227 (F := Ideal) k0_pay21⟩],
     [⟨Rect.unit (s := S1920x128) ![0, 0] S1920x128.size inb_S1920x128_S1920x128_0_0, k0_pay228 (F := Ideal)⟩])
    (fun _ _ => (⊤ : EReal)) (fun _ _ => (⊤ : EReal))
    (fun L g h => by
      rw [View.readCov_eq_canon']
      funext j
      refine (h ((rowR g).emb j) (grp_emb g j)).trans ?_
      rw [View.canon_unit_zero zeros2, pay227_apply])
    (fun L g h => by
      rw [View.readCov_eq_canon']
      funext j
      refine (h ((rowR g).emb j) (grp_emb g j)).trans ?_
      rw [View.canon_unit_zero zeros2, pay228_apply])
    hx2 hx3
    (fun g a k => by
      rw [View.readCov_eq_canon']
      show View.canon _ ((blkR g).toLoadRect.idx (ix2 a k : S640x512.Idx)) = _
      rw [blk_idx, tokens_left, hx0, hx3])
    (fun g r l => by
      rw [View.readCov_eq_canon']
      show View.canon _ ((rowR g).toLoadRect.idx (ix2 r l : S8x128.Idx)) = _
      rw [row_idx, scales_left, hx1]) t l
  simp only [storesA, cnOf_eq, dotOf_eq]
  refine e.trans ?_
  exact zero_add _

/-- The token codes of a band, as loaded. -/
theorem code_read (b : Fin 15) (q : Fin 128) (k : Fin 512) :
    View.readAt (Elt Ideal) arg1.view (codeR b).toLoadRect (harg1.unread x0) (ix2 q k) = x0 (ix2 (⟨128 * b.val + q.val, by omega⟩ : Fin 1920) k) := by
  rw [View.readAt_eq_ld, harg1.read_unread]
  refine congrArg x0 ?_
  funext a; apply Fin.ext
  match a with
  | ⟨0, _⟩ => show 128 * b.val + 1 * q.val = 128 * b.val + q.val; omega
  | ⟨1, _⟩ => show 0 + 1 * k.val = k.val; omega

/-- What the last point stores as the smallest distances of band `b`. -/
def minVal (b : Fin 15) : FVec Ideal S1x128 .f32 :=
  addf (mulf (mulf (View.readAt (Elt Ideal) arg2.view (outR b).toLoadRect (harg2.unread x1)) (View.readAt (Elt Ideal) arg2.view (outR b).toLoadRect (harg2.unread x1)))
      (normOf (View.readAt (Elt Ideal) arg1.view (codeR b).toLoadRect (harg1.unread x0))))
      (tree1 (turned (arg9.view.readCov (storesBC arg3 harg3 arg4 harg4 arg7 harg7 arg8 harg8 arg9 harg9 arg10 harg10 x2 x3 xs0 xs1 xs2 xs3).1 (bandR b).toLoadRect)))

/-- The last point's stores, one band more. -/
theorem minStores_succ (n : ℕ) :
    minStores arg1 harg1 arg2 harg2 arg3 harg3 arg4 harg4 arg7 harg7 arg8 harg8 arg9 harg9 arg10 harg10 x0 x1 x2 x3 xs0 xs1 xs2 xs3 (n + 1)
      = ⟨outR (Fin.ofNat 15 n), minVal arg1 harg1 arg2 harg2 arg3 harg3 arg4 harg4 arg7 harg7 arg8 harg8 arg9 harg9 arg10 harg10 x0 x1 x2 x3 xs0 xs1 xs2 xs3 (Fin.ofNat 15 n)⟩ :: minStores arg1 harg1 arg2 harg2 arg3 harg3 arg4 harg4 arg7 harg7 arg8 harg8 arg9 harg9 arg10 harg10 x0 x1 x2 x3 xs0 xs1 xs2 xs3 n := by
  rw [minStores, minVal]

/-- The last point leaves the token's squared norm plus the smallest shifted distance. -/
theorem min_left (Q : Fin 1920 → ℕ → Two)
    (hQ : ∀ (t : Fin 1920) (l : Fin 128), (⟨View.canon (storesBC arg3 harg3 arg4 harg4 arg7 harg7 arg8 harg8 arg9 harg9 arg10 harg10 x2 x3 xs0 xs1 xs2 xs3).1 (ix2 t l),
      View.canon (storesBC arg3 harg3 arg4 harg4 arg7 harg7 arg8 harg8 arg9 harg9 arg10 harg10 x2 x3 xs0 xs1 xs2 xs3).2 (ix2 t l)⟩ : Two) = Q t l.val)
    (a : Fin 3) (q : Fin 640) :
    View.canon (minStores arg1 harg1 arg2 harg2 arg3 harg3 arg4 harg4 arg7 harg7 arg8 harg8 arg9 harg9 arg10 harg10 x0 x1 x2 x3 xs0 xs1 xs2 xs3 15) (ix2 a q)
      = ((x1 (ix2 a q) : EReal) * x1 (ix2 a q)) * (∑ k : Fin 512, 1 * ((x0 (ix2 (⟨640 * a.val + q.val, by omega⟩ : Fin 1920) k) : EReal) * x0 (ix2 (⟨640 * a.val + q.val, by omega⟩ : Fin 1920) k)))
        + (∑ l ∈ Finset.range 128, Q ⟨640 * a.val + q.val, by omega⟩ l).fst := by
  refine (canon_outR (F := Ideal) (minVal arg1 harg1 arg2 harg2 arg3 harg3 arg4 harg4 arg7 harg7 arg8 harg8 arg9 harg9 arg10 harg10 x0 x1 x2 x3 xs0 xs1 xs2 xs3) (minStores arg1 harg1 arg2 harg2 arg3 harg3 arg4 harg4 arg7 harg7 arg8 harg8 arg9 harg9 arg10 harg10 x0 x1 x2 x3 xs0 xs1 xs2 xs3) (minStores_succ arg1 harg1 arg2 harg2 arg3 harg3 arg4 harg4 arg7 harg7 arg8 harg8 arg9 harg9 arg10 harg10 x0 x1 x2 x3 xs0 xs1 xs2 xs3) a q).trans ?_
  have ht : (⟨128 * (5 * a.val + q.val / 128) + q.val % 128, by omega⟩ : Fin 1920) = ⟨640 * a.val + q.val, by omega⟩ := Fin.ext (show 128 * (5 * a.val + q.val / 128) + q.val % 128 = 640 * a.val + q.val by omega)
  have ha : (⟨(5 * a.val + q.val / 128) / 5, by omega⟩ : Fin 3) = a := Fin.ext (show (5 * a.val + q.val / 128) / 5 = a.val by omega)
  have hq : (⟨128 * ((5 * a.val + q.val / 128) % 5) + q.val % 128, by omega⟩ : Fin 640) = q := Fin.ext (show 128 * ((5 * a.val + q.val / 128) % 5) + q.val % 128 = q.val by omega)
  have hp := congrArg Two.fst (band_pair arg9 arg10 _ _ Q hQ ⟨5 * a.val + q.val / 128, by omega⟩ ⟨q.val % 128, by omega⟩)
  rw [ht] at hp
  have hs := scale_read arg2 harg2 x1 ⟨5 * a.val + q.val / 128, by omega⟩ ⟨q.val % 128, by omega⟩
  rw [show x1 (ix2 (⟨(5 * a.val + q.val / 128) / 5, by omega⟩ : Fin 3) (⟨128 * ((5 * a.val + q.val / 128) % 5) + q.val % 128, by omega⟩ : Fin 640)) = x1 (ix2 a q) by rw [ha, hq]] at hs
  have hn := norm_apply (View.readAt (Elt Ideal) arg1.view (codeR ⟨5 * a.val + q.val / 128, by omega⟩).toLoadRect (harg1.unread x0)) ⟨q.val % 128, by omega⟩
  simp only [code_read, ht] at hn
  exact congrArg₂ (fun u v : EReal => u + v) (congrArg₂ (fun u v : EReal => u * v) (congrArg₂ (fun u v : EReal => u * v) hs hs) hn) hp

/-- The last point leaves the second smallest shifted distance less the smallest. -/
theorem gap_left (Q : Fin 1920 → ℕ → Two)
    (hQ : ∀ (t : Fin 1920) (l : Fin 128), (⟨View.canon (storesBC arg3 harg3 arg4 harg4 arg7 harg7 arg8 harg8 arg9 harg9 arg10 harg10 x2 x3 xs0 xs1 xs2 xs3).1 (ix2 t l),
      View.canon (storesBC arg3 harg3 arg4 harg4 arg7 harg7 arg8 harg8 arg9 harg9 arg10 harg10 x2 x3 xs0 xs1 xs2 xs3).2 (ix2 t l)⟩ : Two) = Q t l.val)
    (a : Fin 3) (q : Fin 640) :
    View.canon (gapStores arg3 harg3 arg4 harg4 arg7 harg7 arg8 harg8 arg9 harg9 arg10 harg10 x2 x3 xs0 xs1 xs2 xs3 15) (ix2 a q)
      = (∑ l ∈ Finset.range 128, Q ⟨640 * a.val + q.val, by omega⟩ l).snd - (∑ l ∈ Finset.range 128, Q ⟨640 * a.val + q.val, by omega⟩ l).fst := by
  refine (canon_outR (F := Ideal) (fun b => subf (tree2 (turned (arg9.view.readCov (storesBC arg3 harg3 arg4 harg4 arg7 harg7 arg8 harg8 arg9 harg9 arg10 harg10 x2 x3 xs0 xs1 xs2 xs3).1 (bandR b).toLoadRect))
      (turned (arg10.view.readCov (storesBC arg3 harg3 arg4 harg4 arg7 harg7 arg8 harg8 arg9 harg9 arg10 harg10 x2 x3 xs0 xs1 xs2 xs3).2 (bandR b).toLoadRect)))
      (tree1 (turned (arg9.view.readCov (storesBC arg3 harg3 arg4 harg4 arg7 harg7 arg8 harg8 arg9 harg9 arg10 harg10 x2 x3 xs0 xs1 xs2 xs3).1 (bandR b).toLoadRect)))) (gapStores arg3 harg3 arg4 harg4 arg7 harg7 arg8 harg8 arg9 harg9 arg10 harg10 x2 x3 xs0 xs1 xs2 xs3) (fun n => rfl) a q).trans ?_
  have ht : (⟨128 * (5 * a.val + q.val / 128) + q.val % 128, by omega⟩ : Fin 1920) = ⟨640 * a.val + q.val, by omega⟩ := Fin.ext (show 128 * (5 * a.val + q.val / 128) + q.val % 128 = 640 * a.val + q.val by omega)
  have hp := band_pair arg9 arg10 _ _ Q hQ ⟨5 * a.val + q.val / 128, by omega⟩ ⟨q.val % 128, by omega⟩
  rw [ht] at hp
  rw [← hp]
  rfl

end

end Cert.Proof

end
-- ==== Proof.Fold.lean ====
/- The fold of the grid's sixteen points over the extended reals, and the kernel's two results read off it. -/
module

public import proofs.«01_k».proof.Proof.Points
public import Idealize.ShloMosaic.Lib.Claim

@[expose] public section

noncomputable section

namespace Cert.Proof

open Cert.KernelIdeal Cert.KernelIdeal.Gen Idealize.ShloMosaic Idealize.ShloMosaic.TcCoe

section
variable {c : Dev nD} {i : grid0.Coords} {arg1 : Memref sig .tc .vmem S1920x512 .fp8e4m3} {harg1 : arg1.IsWhole} {arg2 : Memref sig .tc .vmem S3x640 .f32} {harg2 : arg2.IsWhole}
  {arg3 : Memref sig .tc .vmem S512x512 .fp8e4m3} {harg3 : arg3.IsWhole} {arg4 : Memref sig .tc .vmem S1x512 .f32} {harg4 : arg4.IsWhole}
  {arg5 : Memref sig .tc .vmem S3x640 .f32} {harg5 : arg5.IsWhole} {arg6 : Memref sig .tc .vmem S3x640 .f32} {harg6 : arg6.IsWhole}
  {arg7 : Memref sig .tc .vmem S1920x512 .bf16} {harg7 : arg7.IsWhole} {arg8 : Memref sig .tc .vmem S1920x128 .f32} {harg8 : arg8.IsWhole}
  {arg9 : Memref sig .tc .vmem S1920x128 .f32} {harg9 : arg9.IsWhole} {arg10 : Memref sig .tc .vmem S1920x128 .f32} {harg10 : arg10.IsWhole}
  {x0 : Vec Ideal S1920x512 .fp8e4m3} {x1 : Vec Ideal S3x640 .f32} {x2 : Vec Ideal S512x512 .fp8e4m3} {x3 : Vec Ideal S1x512 .f32}
  {xs0 : Vec Ideal S1920x512 .bf16} {xs1 xs2 xs3 : Vec Ideal S1920x128 .f32}

/-- The first point leaves its stores of the scaled tokens. -/
theorem soutA_0 {hc0 : cond0_0 i} {hc1 : ¬cond0_1 i} : sout0_A_0 c i arg1 harg1 arg2 harg2 arg3 harg3 arg4 harg4 arg5 harg5 arg6 harg6 arg7 harg7 arg8 harg8 arg9 harg9 arg10 harg10 hc0 hc1 x0 x1 x2 x3
    = View.canon (tokenStores arg1 harg1 arg4 harg4 x0 x3) := by
  rw [sout0_A_0, View.read_writes_junk_eq_canon, piecesA_x]

/-- The first point leaves its stores of the token scales. -/
theorem soutA_1 {hc0 : cond0_0 i} {hc1 : ¬cond0_1 i} : sout0_A_1 c i arg1 harg1 arg2 harg2 arg3 harg3 arg4 harg4 arg5 harg5 arg6 harg6 arg7 harg7 arg8 harg8 arg9 harg9 arg10 harg10 hc0 hc1 x0 x1 x2 x3
    = View.canon (scaleStores arg2 harg2 x1 15) := by
  rw [sout0_A_1, View.read_writes_junk_eq_canon, piecesA_s]

/-- The first point leaves its stores of the smallest values. -/
theorem soutA_2 {hc0 : cond0_0 i} {hc1 : ¬cond0_1 i} : sout0_A_2 c i arg1 harg1 arg2 harg2 arg3 harg3 arg4 harg4 arg5 harg5 arg6 harg6 arg7 harg7 arg8 harg8 arg9 harg9 arg10 harg10 hc0 hc1 x0 x1 x2 x3
    = View.canon ((storesA arg1 harg1 arg2 harg2 arg3 harg3 arg4 harg4 arg7 arg8 arg9 arg10 x0 x1 x2 x3).1) := by
  rw [sout0_A_2, View.read_writes_junk_eq_canon, piecesA1]

/-- The first point leaves its stores of the second smallest values. -/
theorem soutA_3 {hc0 : cond0_0 i} {hc1 : ¬cond0_1 i} : sout0_A_3 c i arg1 harg1 arg2 harg2 arg3 harg3 arg4 harg4 arg5 harg5 arg6 harg6 arg7 harg7 arg8 harg8 arg9 harg9 arg10 harg10 hc0 hc1 x0 x1 x2 x3
    = View.canon ((storesA arg1 harg1 arg2 harg2 arg3 harg3 arg4 harg4 arg7 arg8 arg9 arg10 x0 x1 x2 x3).2) := by
  rw [sout0_A_3, View.read_writes_junk_eq_canon, piecesA2]

/-- A middle point leaves its stores of the smallest values. -/
theorem soutB_2 {hc0 : ¬cond0_0 i} {hc1 : ¬cond0_1 i} : sout0_B_2 c i arg1 harg1 arg2 harg2 arg3 harg3 arg4 harg4 arg5 harg5 arg6 harg6 arg7 harg7 arg8 harg8 arg9 harg9 arg10 harg10 hc0 hc1 x0 x1 x2 x3 xs0 xs1 xs2 xs3
    = View.canon ((storesBC arg3 harg3 arg4 harg4 arg7 harg7 arg8 harg8 arg9 harg9 arg10 harg10 x2 x3 xs0 xs1 xs2 xs3).1) := by
  rw [sout0_B_2, View.read_writes_junk_eq_canon, piecesB1]

/-- A middle point leaves its stores of the second smallest values. -/
theorem soutB_3 {hc0 : ¬cond0_0 i} {hc1 : ¬cond0_1 i} : sout0_B_3 c i arg1 harg1 arg2 harg2 arg3 harg3 arg4 harg4 arg5 harg5 arg6 harg6 arg7 harg7 arg8 harg8 arg9 harg9 arg10 harg10 hc0 hc1 x0 x1 x2 x3 xs0 xs1 xs2 xs3
    = View.canon ((storesBC arg3 harg3 arg4 harg4 arg7 harg7 arg8 harg8 arg9 harg9 arg10 harg10 x2 x3 xs0 xs1 xs2 xs3).2) := by
  rw [sout0_B_3, View.read_writes_junk_eq_canon, piecesB2]

/-- The last point leaves its stores of the smallest distances. -/
theorem outC_4 {hc0 : ¬cond0_0 i} {hc1 : cond0_1 i} : out0_C_4 c i arg1 harg1 arg2 harg2 arg3 harg3 arg4 harg4 arg5 harg5 arg6 harg6 arg7 harg7 arg8 harg8 arg9 harg9 arg10 harg10 hc0 hc1 x0 x1 x2 x3 xs0 xs1 xs2 xs3
    = View.canon (minStores arg1 harg1 arg2 harg2 arg3 harg3 arg4 harg4 arg7 harg7 arg8 harg8 arg9 harg9 arg10 harg10 x0 x1 x2 x3 xs0 xs1 xs2 xs3 15) := by
  rw [out0_C_4, View.read_writes_junk_eq_canon, piecesC4]

/-- The last point leaves its stores of the gaps. -/
theorem outC_5 {hc0 : ¬cond0_0 i} {hc1 : cond0_1 i} : out0_C_5 c i arg1 harg1 arg2 harg2 arg3 harg3 arg4 harg4 arg5 harg5 arg6 harg6 arg7 harg7 arg8 harg8 arg9 harg9 arg10 harg10 hc0 hc1 x0 x1 x2 x3 xs0 xs1 xs2 xs3
    = View.canon (gapStores arg3 harg3 arg4 harg4 arg7 harg7 arg8 harg8 arg9 harg9 arg10 harg10 x2 x3 xs0 xs1 xs2 xs3 15) := by
  rw [out0_C_5, View.read_writes_junk_eq_canon, piecesC5]

end

section
variable (m : (ℓ : Loc nD τ sig) → Buf (Elt Ideal) ℓ) (c : Dev nD)

/-- Where a token's scale lies. -/
def scIdx (t : Fin 1920) : S3x640.Idx := ix2 ⟨t.val / 640, by omega⟩ ⟨t.val % 640, by omega⟩

/-- The block indices of the input windows: the codes move block by block, the others stay. -/
theorem idx_in : ∀ t : Fin cfg0.N, (win0_0.index t (0 : Fin 2) = 0 ∧ win0_0.index t (1 : Fin 2) = 0) ∧ (win0_1.index t (0 : Fin 2) = 0 ∧ win0_1.index t (1 : Fin 2) = 0)
    ∧ (win0_2.index t (0 : Fin 2) = t.val ∧ win0_2.index t (1 : Fin 2) = 0) ∧ (win0_3.index t (0 : Fin 2) = 0 ∧ win0_3.index t (1 : Fin 2) = 0) :=
  (by decide +kernel : ∀ t : Fin grid0.N, _)

/-- The token codes as a point sees them. -/
theorem in0 (t : Fin cfg0.N) (j : S1920x512.Idx) : iblk m c 0 t j = V m c main_v0 j := by
  obtain ⟨⟨e0, e1⟩, -⟩ := idx_in t
  show V m c main_v0 (((cfg0.win 0).blk t).view.emb j) = V m c main_v0 j
  congr 1
  funext a; apply Fin.ext
  match a with
  | ⟨0, _⟩ => show win0_0.index t (0 : Fin 2) * 1920 + 1 * (j 0).val = (j 0).val; omega
  | ⟨1, _⟩ => show win0_0.index t (1 : Fin 2) * 512 + 1 * (j 1).val = (j 1).val; omega

/-- The token scales as a point sees them. -/
theorem in1 (t : Fin cfg0.N) (j : S3x640.Idx) : iblk m c 1 t j = V m c main_arg1 j := by
  obtain ⟨-, ⟨e0, e1⟩, -⟩ := idx_in t
  show V m c main_arg1 (((cfg0.win 1).blk t).view.emb j) = V m c main_arg1 j
  congr 1
  funext a; apply Fin.ext
  match a with
  | ⟨0, _⟩ => show win0_1.index t (0 : Fin 2) * 3 + 1 * (j 0).val = (j 0).val; omega
  | ⟨1, _⟩ => show win0_1.index t (1 : Fin 2) * 640 + 1 * (j 1).val = (j 1).val; omega

/-- The block of codes a point sees. -/
theorem in2 (t : Fin cfg0.N) (n : ℕ) (ht : t.val = n) (hn : n < 16) (a k : Fin 512) :
    iblk m c 2 t (ix2 a k : S512x512.Idx) = V m c main_arg2 (ix2 (⟨512 * n + a.val, by omega⟩ : Fin 8192) k) := by
  obtain ⟨-, -, ⟨e0, e1⟩, -⟩ := idx_in t
  show V m c main_arg2 (((cfg0.win 2).blk t).view.emb (ix2 a k : S512x512.Idx)) = _
  congr 1
  funext x; apply Fin.ext
  match x with
  | ⟨0, _⟩ => show win0_2.index t (0 : Fin 2) * 512 + 1 * a.val = 512 * n + a.val; omega
  | ⟨1, _⟩ => show win0_2.index t (1 : Fin 2) * 512 + 1 * k.val = k.val; omega

/-- The code scales as a point sees them. -/
theorem in3 (t : Fin cfg0.N) (j : S1x512.Idx) : iblk m c 3 t j = V m c main_v1 j := by
  obtain ⟨-, -, -, ⟨e0, e1⟩⟩ := idx_in t
  show V m c main_v1 (((cfg0.win 3).blk t).view.emb j) = V m c main_v1 j
  congr 1
  funext a; apply Fin.ext
  match a with
  | ⟨0, _⟩ => show win0_3.index t (0 : Fin 2) * 1 + 1 * (j 0).val = (j 0).val; omega
  | ⟨1, _⟩ => show win0_3.index t (1 : Fin 2) * 512 + 1 * (j 1).val = (j 1).val; omega

variable (X : S1920x512.Idx → EReal) (X1 : S3x640.Idx → EReal) (s : Fin 1920 → EReal) (C : S8192x512.Idx → EReal) (w : Fin 512 → EReal)
  (hX : ∀ (t : Fin 1920) (k : Fin 512), V m c main_v0 (ix2 t k : S1920x512.Idx) = X (ix2 t k))
  (hX1 : ∀ j : S3x640.Idx, V m c main_arg1 j = X1 j)
  (hs : ∀ t : Fin 1920, X1 (scIdx t) = s t)
  (hC : ∀ j : S8192x512.Idx, V m c main_arg2 j = C j) (hw : ∀ k : Fin 512, V m c main_v1 (ix2 0 k : S1x512.Idx) = w k)

/-- The merge of a lane's values over the points up to `n`. -/
def lanePair (n : ℕ) (t : Fin 1920) (l : ℕ) : Two := ∑ n' ∈ Finset.range (n + 1), ∑ j ∈ Finset.range 4, Two.one (vS X s C w t (cd n' j l))

include hX hX1 hs hC hw in
/-- After point `n` the scratch holds the scaled tokens, twice the token scales, and each lane's merged pair. -/
theorem carried : ∀ (n : ℕ) (hn : n < cfg0.N), n < 15 →
    (∀ (t : Fin 1920) (k : Fin 512), (outsAt0 m c n hn).2.2.1 (ix2 t k) = X (ix2 t k) * w k)
    ∧ (∀ (t : Fin 1920) (l : Fin 128), (outsAt0 m c n hn).2.2.2.1 (ix2 t l) = 2 * s t)
    ∧ ∀ (t : Fin 1920) (l : Fin 128), (⟨(outsAt0 m c n hn).2.2.2.2.1 (ix2 t l), (outsAt0 m c n hn).2.2.2.2.2 (ix2 t l)⟩ : Two) = lanePair X s C w n t l.val := by
  intro n
  induction n with
  | zero =>
    intro hn _
    have e : outsAt0 m c 0 hn = _ := outsAt0_A m c ⟨0, hn⟩ (Nat.zero_mod _) (by show ¬ 0 % 16 = 15; omega)
    rw [e]
    dsimp only
    refine ⟨fun t k => ?_, fun t l => ?_, fun t l => ?_⟩
    · rw [soutA_0, tokens_left]
      rw [in0, in3, hX, hw]
    · rw [soutA_1, scales_left]
      rw [in1, hX1]
      exact congrArg (fun z : EReal => 2 * z) (hs t)
    · rw [soutA_2, soutA_3, scanA X s C w]
      · rw [lanePair, Finset.sum_range_one]
      · intro a k; rw [in2 m c _ 0 rfl (by omega), hC]
      · intro k; rw [in3, hw]
      · intro t k; rw [in0, hX]
      · intro t; rw [in1, hX1]; exact hs t
  | succ n ih =>
    intro hn h15
    obtain ⟨i0, i1, i2⟩ := ih (Nat.lt_of_succ_lt hn) (by omega)
    have e : outsAt0 m c (n + 1) hn = _ := outsAt0_B m c ⟨n + 1, hn⟩ (by show ¬ (n + 1) % 16 = 0; omega) (by show ¬ (n + 1) % 16 = 15; omega)
    rw [e]
    dsimp only
    refine ⟨i0, i1, fun t l => ?_⟩
    rw [soutB_2, soutB_3]
    refine (scanBC X s C w _ _ _ _ _ _ _ _ _ _ _ _ _ _ _ _ _ _ (n + 1) (by omega) ?_ ?_ i0 i1 t l).trans ?_
    · intro a k; rw [in2 m c _ (n + 1) rfl (by omega), hC]
    · intro k; rw [in3, hw]
    · refine (congrArg (· + _) (i2 t l)).trans ?_
      rw [lanePair, lanePair, Finset.sum_range_succ _ (n + 1)]

/-- The merge over all codes. -/
def codePair (t : Fin 1920) : Two := ∑ q : Fin 8192, Two.one (vS X s C w t q)

/-- The 128 lanes' pairs after the last point merge to the pair over all codes. -/
theorem lanes_all (t : Fin 1920) : ∑ l ∈ Finset.range 128, lanePair X s C w 15 t l = codePair X s C w t := by
  simp only [codePair, lanePair, cd, Nat.reduceAdd]
  refine (sum_codes (fun q => Two.one (vS X s C w t (Fin.ofNat 8192 q)))).symm.trans (Finset.sum_congr rfl fun q _ => ?_)
  congr 2
  exact Fin.ext (by rw [Fin.val_ofNat, Nat.mod_eq_of_lt q.isLt])

include hX hX1 hs hC hw in
/-- The kernel's two results. -/
theorem results (a : Fin 3) (q : Fin 640) :
    Cert.KernelIdeal.Value.G4 m c (ix2 a q) = (X1 (ix2 a q) * X1 (ix2 a q))
        * (∑ k : Fin 512, 1 * (X (ix2 (⟨640 * a.val + q.val, by omega⟩ : Fin 1920) k) * X (ix2 (⟨640 * a.val + q.val, by omega⟩ : Fin 1920) k)))
        + (codePair X s C w ⟨640 * a.val + q.val, by omega⟩).fst
    ∧ Cert.KernelIdeal.Value.G5 m c (ix2 a q) = (codePair X s C w ⟨640 * a.val + q.val, by omega⟩).snd - (codePair X s C w ⟨640 * a.val + q.val, by omega⟩).fst := by
  have hN : 15 < cfg0.N := lt_of_lt_of_eq (by decide) N_0.symm
  obtain ⟨i0, i1, i2⟩ := carried m c X X1 s C w hX hX1 hs hC hw 14 (by omega) (by omega)
  have e : outsAt0 m c 15 hN = _ := outsAt0_C m c ⟨15, hN⟩ (by show ¬ 15 % 16 = 0; omega) rfl
  have hQ := fun t l => (scanBC X s C w (ms0_2 ⟨15, hN⟩) (hs0_2 ⟨15, hN⟩) (ms0_3 ⟨15, hN⟩) (hs0_3 ⟨15, hN⟩) scM0_0 (Memref.isWhole_whole _) scM0_1 (Memref.isWhole_whole _) scM0_2 (Memref.isWhole_whole _) scM0_3 (Memref.isWhole_whole _)
    (iblk m c 2 ⟨15, hN⟩) (iblk m c 3 ⟨15, hN⟩) _ _ _ _ 15 (by omega)
    (fun a k => by rw [in2 m c _ 15 rfl (by omega), hC]) (fun k => by rw [in3, hw]) i0 i1 t l).trans
    ((congrArg (· + _) (i2 t l)).trans (show _ = lanePair X s C w 15 t l.val by rw [lanePair, lanePair, Finset.sum_range_succ _ 15]))
  rw [Cert.KernelIdeal.Value.G4_last, Cert.KernelIdeal.Value.G5_last, ← Cert.KernelIdeal.Value.outsAt0_sweep m c 15 hN, e]
  constructor
  · dsimp only
    rw [outC_4, min_left _ _ _ _ _ _ _ _ _ _ _ _ _ _ _ _ _ _ _ _ _ _ _ _ _ hQ a q, lanes_all, in1]
    simp only [in0, hX, hX1]
  · dsimp only
    rw [outC_5, gap_left _ _ _ _ _ _ _ _ _ _ _ _ _ _ _ _ _ _ _ hQ a q, lanes_all]

end

end Cert.Proof

end
-- ==== Proof.RefValue.lean ====
/- The reference's two results as functions of its arguments: the reference has one grid point, every block is its
   whole array, and each result is one store of a whole array. -/
module

public import proofs.«01_k».proof.Proof.Gen.ReferenceIdeal.Frame
public import Idealize.ShloMosaic.Lib.Pipeline.Value

@[expose] public section

noncomputable section

namespace Cert.ReferenceIdeal.Value

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 4's array: the body's result for that window (`Gen.out0_4`: its stores
    as pieces over the input windows' blocks), read through the window's block. -/
theorem flushed4 (c : Dev nD) (t : Fin cfg0.N) :
    (dats m 0 c).flushed 4 t = (cfg0.win 4).cut (grid0.coords t) (out0_4 (iblk m c 0 t) (iblk m c 1 t) (iblk m c 2 t) (iblk m c 3 t)) := by
  show (cfg0.win 4).cut (grid0.coords t) ((dats m 0 c).after 4 t) = _
  rw [after0_4]

/-- WHAT POINT `t` WRITES BACK to output window 5's array: the body's result for that window (`Gen.out0_5`: its stores
    as pieces over the input windows' blocks), read through the window's block. -/
theorem flushed5 (c : Dev nD) (t : Fin cfg0.N) :
    (dats m 0 c).flushed 5 t = (cfg0.win 5).cut (grid0.coords t) (out0_5 (iblk m c 0 t) (iblk m c 1 t) (iblk m c 2 t) (iblk m c 3 t)) := by
  show (cfg0.win 5).cut (grid0.coords t) ((dats m 0 c).after 5 t) = _
  rw [after0_5]

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_0) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_1) = (dats m 0 c).arrAt 5 cfg0.N :=
  (h c).1 5

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-! ## Closed form at one grid point: every window's block is its array -/

/-- A list of zero offsets is the constant zero. -/
theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S3x640x512.Idx) : ((cfg0.win 0).blk t).view.emb j = j := by
  obtain ⟨e0, e1, e2⟩ := idx_zero0 t
  funext a; apply Fin.ext
  match a with
  | ⟨0, _⟩ => show win0_0.index t (0 : Fin 3) * 3 + 1 * (j 0).val = (j 0).val; omega
  | ⟨1, _⟩ => show win0_0.index t (1 : Fin 3) * 640 + 1 * (j 1).val = (j 1).val; omega
  | ⟨2, _⟩ => show win0_0.index t (2 : Fin 3) * 512 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

/-- A list of zero offsets is the constant zero. -/
theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S3x640.Idx) : ((cfg0.win 1).blk t).view.emb j = j := by
  obtain ⟨e0, e1⟩ := idx_zero1 t
  funext a; apply Fin.ext
  match a with
  | ⟨0, _⟩ => show win0_1.index t (0 : Fin 2) * 3 + 1 * (j 0).val = (j 0).val; omega
  | ⟨1, _⟩ => show win0_1.index t (1 : Fin 2) * 640 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

/-- A list of zero offsets is the constant zero. -/
theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S8192x512.Idx) : ((cfg0.win 2).blk t).view.emb j = j := by
  obtain ⟨e0, e1⟩ := idx_zero2 t
  funext a; apply Fin.ext
  match a with
  | ⟨0, _⟩ => show win0_2.index t (0 : Fin 2) * 8192 + 1 * (j 0).val = (j 0).val; omega
  | ⟨1, _⟩ => show win0_2.index t (1 : Fin 2) * 512 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

/-- A list of zero offsets is the constant zero. -/
theorem hz3 : (![0] : Fin 1 → Nat) = fun _ => 0 := funext fun a => by fin_cases a <;> rfl

/-- Window 3's block index at the one point is zero on every axis. -/
theorem idx_zero3 : ∀ t : Fin cfg0.N, win0_3.index t (0 : Fin 1) = 0 :=
  (by decide +kernel : ∀ t : Fin grid0.N, _)

/-- An index of window 3's block is the same index of its array. -/
theorem emb3 (t : Fin cfg0.N) (j : S512.Idx) : ((cfg0.win 3).blk t).view.emb j = j := by
  have e0 := idx_zero3 t
  funext a; apply Fin.ext
  match a with
  | ⟨0, _⟩ => show win0_3.index t (0 : Fin 1) * 512 + 1 * (j 0).val = (j 0).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

/-- A list of zero offsets is the constant zero. -/
theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S3x640.Idx) : ((cfg0.win 4).blk t).view.emb j = j := by
  obtain ⟨e0, e1⟩ := idx_zero4 t
  funext a; apply Fin.ext
  match a with
  | ⟨0, _⟩ => show win0_4.index t (0 : Fin 2) * 3 + 1 * (j 0).val = (j 0).val; omega
  | ⟨1, _⟩ => show win0_4.index t (1 : Fin 2) * 640 + 1 * (j 1).val = (j 1).val; omega

/-- A list of zero offsets is the constant zero. -/
theorem hz5 : (![0, 0] : Fin 2 → Nat) = fun _ => 0 := funext fun a => by fin_cases a <;> rfl

/-- Window 5's block index at the one point is zero on every axis. -/
theorem idx_zero5 : ∀ t : Fin cfg0.N, win0_5.index t (0 : Fin 2) = 0 ∧ win0_5.index t (1 : Fin 2) = 0 :=
  (by decide +kernel : ∀ t : Fin grid0.N, _)

/-- An index of window 5's block is the same index of its array. -/
theorem emb5 (t : Fin cfg0.N) (j : S3x640.Idx) : ((cfg0.win 5).blk t).view.emb j = j := by
  obtain ⟨e0, e1⟩ := idx_zero5 t
  funext a; apply Fin.ext
  match a with
  | ⟨0, _⟩ => show win0_5.index t (0 : Fin 2) * 3 + 1 * (j 0).val = (j 0).val; omega
  | ⟨1, _⟩ => show win0_5.index t (1 : Fin 2) * 640 + 1 * (j 1).val = (j 1).val; omega

/-! ### Output window 4: the array after the run -/

/-- What the window's array ends holding: `out0_4` applied to the argument arrays in place of the input blocks (a value that the
    frame states apart, `kK_payN a…`, keeps its loads inside its own definition). -/
abbrev G4 (a0 : Vec F S3x640x512 .fp8e4m3) (a1 : Vec F S3x640 .f32) (a2 : Vec F S8192x512 .fp8e4m3) (a3 : Vec F S512 .f32) : Vec F S3x640 .f32 :=
  k0_pay1 (k0_pay9 a0 a1 a2 a3)

/-- A load of the whole of a block reads the block, and the one store through the whole rectangle leaves its payload. -/
theorem out4_eq (a0 : Vec F S3x640x512 .fp8e4m3) (a1 : Vec F S3x640 .f32) (a2 : Vec F S8192x512 .fp8e4m3) (a3 : Vec F S512 .f32) : out0_4 (F := F) a0 a1 a2 a3 = G4 a0 a1 a2 a3 := by
  unfold out0_4
  rw [View.canon_unit_zero hz4, View.ld_unit_zero (S := S3x640x512) hz0 _ a0, View.ld_unit_zero (S := S3x640) hz1 _ a1, View.ld_unit_zero (S := S8192x512) hz2 _ a2, View.ld_unit_zero (S := S512) hz3 _ a3]

/-- Cutting the point's block out of `X` and reading `X` through the block's view give the same. -/
theorem cut4_eq (t : Fin cfg0.N) (X : Vec F S3x640 .f32) :
    (cfg0.win 4).cut (grid0.coords t) X = ((cfg0.win 4).blk t).view.read (Elt F) X := by
  funext j
  show X j = X (((cfg0.win 4).blk t).view.emb j)
  rw [emb4]

/-- WHAT THE POINT WRITES BACK is its block of `G4` of the argument arrays as the region finds them. -/
theorem flushed4_eq (c : Dev nD) (t : Fin cfg0.N) :
    (dats m 0 c).flushed 4 t = ((cfg0.win 4).blk t).view.read (Elt F) (G4 (V m c main_arg0) (V m c main_arg1) (V m c main_arg2) (V m c main_arg3)) := by
  show (cfg0.win 4).cut (grid0.coords t) ((dats m 0 c).after 4 t) = _
  rw [after0_4, out4_eq, iblk0_eq, iblk1_eq, iblk2_eq, iblk3_eq]
  exact cut4_eq t _

/-- Every index of the array is in the point's block. -/
theorem covered4 (i : S3x640.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- THE ARRAY after the run: `G4` of the argument arrays as launched. -/
theorem final4 (c : Dev nD) : (dats m 0 c).arrAt 4 cfg0.N = G4 (m ((c : Thread nD τ).loc main_arg0)) (m ((c : Thread nD τ).loc main_arg1)) (m ((c : Thread nD τ).loc main_arg2)) (m ((c : Thread nD τ).loc main_arg3)) :=
  ((dats m 0 c).arrAt_eq_of_cover 4 (G4 (V m c main_arg0) (V m c main_arg1) (V m c main_arg2) (V m c main_arg3)) (fun t _ => flushed4_eq m c t) covered4).trans (by rw [V_main_arg0, V_main_arg1, V_main_arg2, V_main_arg3])

/-! ### Output window 5: the array after the run -/

/-- What the window's array ends holding: `out0_5` applied to the argument arrays in place of the input blocks (a value that the
    frame states apart, `kK_payN a…`, keeps its loads inside its own definition). -/
abbrev G5 (a0 : Vec F S3x640x512 .fp8e4m3) (a1 : Vec F S3x640 .f32) (a2 : Vec F S8192x512 .fp8e4m3) (a3 : Vec F S512 .f32) : Vec F S3x640 .f32 :=
  k0_pay2 (k0_pay10 a0 a1 a2 a3) (k0_pay11 a0 a1 a2 a3) (k0_pay12 a0 a1 a2 a3)

/-- A load of the whole of a block reads the block, and the one store through the whole rectangle leaves its payload. -/
theorem out5_eq (a0 : Vec F S3x640x512 .fp8e4m3) (a1 : Vec F S3x640 .f32) (a2 : Vec F S8192x512 .fp8e4m3) (a3 : Vec F S512 .f32) : out0_5 (F := F) a0 a1 a2 a3 = G5 a0 a1 a2 a3 := by
  unfold out0_5
  rw [View.canon_unit_zero hz5, View.ld_unit_zero (S := S3x640x512) hz0 _ a0, View.ld_unit_zero (S := S3x640) hz1 _ a1, View.ld_unit_zero (S := S8192x512) hz2 _ a2, View.ld_unit_zero (S := S512) hz3 _ a3]

/-- Cutting the point's block out of `X` and reading `X` through the block's view give the same. -/
theorem cut5_eq (t : Fin cfg0.N) (X : Vec F S3x640 .f32) :
    (cfg0.win 5).cut (grid0.coords t) X = ((cfg0.win 5).blk t).view.read (Elt F) X := by
  funext j
  show X j = X (((cfg0.win 5).blk t).view.emb j)
  rw [emb5]

/-- WHAT THE POINT WRITES BACK is its block of `G5` of the argument arrays as the region finds them. -/
theorem flushed5_eq (c : Dev nD) (t : Fin cfg0.N) :
    (dats m 0 c).flushed 5 t = ((cfg0.win 5).blk t).view.read (Elt F) (G5 (V m c main_arg0) (V m c main_arg1) (V m c main_arg2) (V m c main_arg3)) := by
  show (cfg0.win 5).cut (grid0.coords t) ((dats m 0 c).after 5 t) = _
  rw [after0_5, out5_eq, iblk0_eq, iblk1_eq, iblk2_eq, iblk3_eq]
  exact cut5_eq t _

/-- Every index of the array is in the point's block. -/
theorem covered5 (i : S3x640.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- THE ARRAY after the run: `G5` of the argument arrays as launched. -/
theorem final5 (c : Dev nD) : (dats m 0 c).arrAt 5 cfg0.N = G5 (m ((c : Thread nD τ).loc main_arg0)) (m ((c : Thread nD τ).loc main_arg1)) (m ((c : Thread nD τ).loc main_arg2)) (m ((c : Thread nD τ).loc main_arg3)) :=
  ((dats m 0 c).arrAt_eq_of_cover 5 (G5 (V m c main_arg0) (V m c main_arg1) (V m c main_arg2) (V m c main_arg3)) (fun t _ => flushed5_eq m c t) covered5).trans (by rw [V_main_arg0, V_main_arg1, V_main_arg2, V_main_arg3])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G4 (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = G5 (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(post4 m r h c).trans (final4 m c),
      (post5 m r h c).trans (final5 m c),
      kept_main_arg0 m r h c,
      kept_main_arg1 m r h c,
      kept_main_arg2 m r h c,
      kept_main_arg3 m r h c⟩)
    (run_main m ρ)

end Cert.ReferenceIdeal.Value

end
-- ==== Proof.RefRead.lean ====
/- The reference's two results over the extended reals: the smallest distance is the token's squared norm plus the
   smallest shifted distance, and the gap is the second smallest shifted distance less the smallest. -/
module

public import proofs.«01_k».proof.Proof.Fold
public import proofs.«01_k».proof.Proof.RefValue

@[expose] public section

noncomputable section

namespace Cert.Proof

open Cert.ReferenceIdeal Cert.ReferenceIdeal.Gen Idealize.ShloMosaic Idealize.ShloMosaic.TcCoe

/-- The token codes, one row per token. -/
def Xof (a0 : S3x640x512.Idx → EReal) (j : S1920x512.Idx) : EReal :=
  a0 (ix3 ⟨(j 0).val / 640, by have h : (j 0).val < 1920 := (j 0).isLt; omega⟩ ⟨(j 0).val % 640, by omega⟩ ⟨(j 1).val, (j 1).isLt⟩)

/-- The token scales, one per token. -/
def sof (a1 : S3x640.Idx → EReal) (t : Fin 1920) : EReal := a1 (ix2 ⟨t.val / 640, by omega⟩ ⟨t.val % 640, by omega⟩)

/-- A token's scale, named by its batch and place. -/
theorem sof_eq (a1 : S3x640.Idx → EReal) (a : Fin 3) (q : Fin 640) : sof a1 ⟨640 * a.val + q.val, by omega⟩ = a1 (ix2 a q) := by
  have ha : (⟨(640 * a.val + q.val) / 640, by omega⟩ : Fin 3) = a := Fin.ext (show (640 * a.val + q.val) / 640 = a.val by omega)
  have hq : (⟨(640 * a.val + q.val) % 640, by omega⟩ : Fin 640) = q := Fin.ext (show (640 * a.val + q.val) % 640 = q.val by omega)
  rw [sof]
  show a1 (ix2 (⟨(640 * a.val + q.val) / 640, by omega⟩ : Fin 3) (⟨(640 * a.val + q.val) % 640, by omega⟩ : Fin 640)) = _
  rw [ha, hq]

/-- The code scales. -/
def wof (a3 : S512.Idx → EReal) (k : Fin 512) : EReal := a3 (ix1 k)

/-! ### Reading the reference's expressions -/

/-- The reference's token codes. -/
theorem ref3 (a0 : Vec Ideal S3x640x512 .fp8e4m3) (t : Fin 1920) (k : Fin 512) : k0_pay3 a0 (ix2 t k) = Xof a0 (ix2 t k) := by
  show _ = a0 (ix3 ⟨t.val / 640, by omega⟩ ⟨t.val % 640, by omega⟩ k)
  pointwise [k0_pay3]

/-- The reference's token scales. -/
theorem ref4 (a1 : Vec Ideal S3x640 .f32) (t : Fin 1920) : k0_pay4 a1 (ix1 t) = sof a1 t := by
  show _ = a1 (ix2 ⟨t.val / 640, by omega⟩ ⟨t.val % 640, by omega⟩)
  pointwise [k0_pay4]

/-- The reference's squared token norms, before the values are named. -/
theorem ref5_raw (a0 : Vec Ideal S3x640x512 .fp8e4m3) (a1 : Vec Ideal S3x640 .f32) (t : Fin 1920) :
    k0_pay5 a0 a1 (ix1 t) = (k0_pay4 a1 (ix1 t) : EReal) * k0_pay4 a1 (ix1 t) * ∑ k : Fin 512, (k0_pay3 a0 (ix2 t k) : EReal) * k0_pay3 a0 (ix2 t k) := by
  pointwise [k0_pay5]

/-- A token's squared norm. -/
def xnS (X : S1920x512.Idx → EReal) (s : Fin 1920 → EReal) (t : Fin 1920) : EReal := s t * s t * ∑ k : Fin 512, X (ix2 t k) * X (ix2 t k)

/-- The reference's squared token norms. -/
theorem ref5 (a0 : Vec Ideal S3x640x512 .fp8e4m3) (a1 : Vec Ideal S3x640 .f32) (t : Fin 1920) : k0_pay5 a0 a1 (ix1 t) = xnS (Xof a0) (sof a1) t := by
  rw [ref5_raw, ref4, xnS]
  simp only [ref3]

/-- The reference's squared code norms. -/
theorem ref7 (a2 : Vec Ideal S8192x512 .fp8e4m3) (a3 : Vec Ideal S512 .f32) (c : Fin 8192) : k0_pay7 a2 a3 (ix1 c) = cnS a2 (wof a3) c := by
  show _ = ∑ k : Fin 512, ((a2 (ix2 c k) : EReal) * a3 (ix1 k)) * ((a2 (ix2 c k) : EReal) * a3 (ix1 k))
  pointwise [k0_pay7, k0_pay6]

/-- The reference's doubled products, before the values are named. -/
theorem ref8_raw (a0 : Vec Ideal S3x640x512 .fp8e4m3) (a1 : Vec Ideal S3x640 .f32) (a2 : Vec Ideal S8192x512 .fp8e4m3) (a3 : Vec Ideal S512 .f32) (t : Fin 1920) (c : Fin 8192) :
    k0_pay8 a0 a1 a2 a3 (ix2 t c) = (Ideal.ofBits .f32 0x40000000#32 : EReal) * (k0_pay4 a1 (ix1 t) * ∑ k : Fin 512, (k0_pay3 a0 (ix2 t k) : EReal) * ((a2 (ix2 c k) : EReal) * a3 (ix1 k))) := by
  pointwise [k0_pay8, k0_pay6]

/-- The reference's doubled products. -/
theorem ref8 (a0 : Vec Ideal S3x640x512 .fp8e4m3) (a1 : Vec Ideal S3x640 .f32) (a2 : Vec Ideal S8192x512 .fp8e4m3) (a3 : Vec Ideal S512 .f32) (t : Fin 1920) (c : Fin 8192) :
    k0_pay8 a0 a1 a2 a3 (ix2 t c) = 2 * (sof a1 t * dotS (Xof a0) a2 (wof a3) t c) := by
  rw [ref8_raw, bits_two, ref4, dotS]
  simp only [ref3]
  rfl

/-- The reference's distances. -/
theorem ref9 (a0 : Vec Ideal S3x640x512 .fp8e4m3) (a1 : Vec Ideal S3x640 .f32) (a2 : Vec Ideal S8192x512 .fp8e4m3) (a3 : Vec Ideal S512 .f32) (t : Fin 1920) (c : Fin 8192) :
    k0_pay9 a0 a1 a2 a3 (ix2 t c) = (k0_pay5 a0 a1 (ix1 t) : EReal) + k0_pay7 a2 a3 (ix1 c) - k0_pay8 a0 a1 a2 a3 (ix2 t c) := by
  pointwise [k0_pay9]

/-- The reference's distances with an infinite token norm left out. -/
theorem ref10 (a0 : Vec Ideal S3x640x512 .fp8e4m3) (a1 : Vec Ideal S3x640 .f32) (a2 : Vec Ideal S8192x512 .fp8e4m3) (a3 : Vec Ideal S512 .f32) (t : Fin 1920) (c : Fin 8192) :
    k0_pay10 a0 a1 a2 a3 (ix2 t c) = (if (FloatOps.absf (F := Ideal) (φ := .f32) (k0_pay5 a0 a1 (ix1 t)) : EReal) < Ideal.ofBits .f32 0x7F800000#32 then (k0_pay5 a0 a1 (ix1 t) : EReal) else 0)
      + k0_pay7 a2 a3 (ix1 c) - k0_pay8 a0 a1 a2 a3 (ix2 t c) := by
  pointwise [k0_pay10]

/-- A row's smallest value. -/
theorem min_row (v : FVec Ideal S1920x8192 .f32) (t : Fin 1920) :
    multiReduction .minimumf [1] S1920 v 0x7F800000#32 reduces_S1920x8192_S1920 (.inl rfl) rfl (ix1 t) = Finset.univ.inf fun x : Fin 8192 => (v (ix2 t x) : EReal) := by
  have e : multiReduction .minimumf [1] S1920 v 0x7F800000#32 reduces_S1920x8192_S1920 (.inl rfl) rfl (ix1 t)
      = Finset.fold min (Ideal.ofBits .f32 0x7F800000#32) (fun x => v (ix2 t x)) Finset.univ := by
    pointwise []
  rw [e, bits_inf]; rfl

/-- The reference's smallest distances. -/
theorem ref1 (v : FVec Ideal S1920x8192 .f32) (a : Fin 3) (q : Fin 640) :
    k0_pay1 v (ix2 a q) = Finset.univ.inf fun x : Fin 8192 => (v (ix2 (⟨640 * a.val + q.val, by omega⟩ : Fin 1920) x) : EReal) := by
  have e : k0_pay1 v (ix2 a q) = Finset.fold min (Ideal.ofBits .f32 0x7F800000#32) (fun x => v (ix2 (⟨a.val * 640 + q.val, by omega⟩ : Fin 1920) x)) Finset.univ := by
    pointwise [k0_pay1]
  have h : (⟨640 * a.val + q.val, by omega⟩ : Fin 1920) = ⟨a.val * 640 + q.val, by omega⟩ := Fin.ext (show 640 * a.val + q.val = a.val * 640 + q.val by omega)
  rw [e, bits_inf, h]; rfl

/-- The smallest values of the guarded distances. -/
theorem ref11 (a0 : Vec Ideal S3x640x512 .fp8e4m3) (a1 : Vec Ideal S3x640 .f32) (a2 : Vec Ideal S8192x512 .fp8e4m3) (a3 : Vec Ideal S512 .f32) (t : Fin 1920) :
    k0_pay11 a0 a1 a2 a3 (ix1 t) = Finset.univ.inf fun x : Fin 8192 => (k0_pay10 a0 a1 a2 a3 (ix2 t x) : EReal) := min_row _ t

/-- The same as a column. -/
theorem ref12 (a0 : Vec Ideal S3x640x512 .fp8e4m3) (a1 : Vec Ideal S3x640 .f32) (a2 : Vec Ideal S8192x512 .fp8e4m3) (a3 : Vec Ideal S512 .f32) (t : Fin 1920) :
    k0_pay12 a0 a1 a2 a3 (ix2 t 0) = k0_pay11 a0 a1 a2 a3 (ix1 t) := by
  pointwise [k0_pay12]

/-! ### The gap's count -/

/-- The last steps of the gap. -/
theorem gap_row (v43 v51 : FVec Ideal S1920 .f32) (cnt : IVec S1920 32) (a : Fin 3) (q : Fin 640) :
    shapeCast S3x640 (subf (select (cmpi .sgt cnt (broadcast S1920 1#32)) v43 v51) v43) shapeCasts_S1920_S3x640 (ix2 a q)
      = (Scalar.select (IntOp.cmpi .sgt (cnt (ix1 ⟨640 * a.val + q.val, by omega⟩)) 1#32) (v43 (ix1 ⟨640 * a.val + q.val, by omega⟩) : EReal) (v51 (ix1 ⟨640 * a.val + q.val, by omega⟩))) - v43 (ix1 ⟨640 * a.val + q.val, by omega⟩) := by
  have e : (⟨640 * a.val + q.val, by omega⟩ : Fin 1920) = ⟨a.val * 640 + q.val, by omega⟩ := Fin.ext (show 640 * a.val + q.val = a.val * 640 + q.val by omega)
  rw [e]
  pointwise []

/-- One for each entry equal to its row's value. -/
theorem eq_row (v42 : FVec Ideal S1920x8192 .f32) (v44 : FVec Ideal S1920x1 .f32) (t : Fin 1920) (x : Fin 8192) :
    extui 32 (cmpf .oeq v42 (broadcastTo S1920x8192 v44 broadcasts_S1920x1_S1920x8192)) natLt_1_32 (ix2 t x)
      = BitVec.setWidth 32 (BitVec.ofBool (decide (v42 (ix2 t x) = v44 (ix2 t 0)))) := by
  pointwise []

/-- Infinity in place of each entry equal to its row's value. -/
theorem above_row (v42 : FVec Ideal S1920x8192 .f32) (v44 : FVec Ideal S1920x1 .f32) (t : Fin 1920) (x : Fin 8192) :
    select (cmpf .oeq v42 (broadcastTo S1920x8192 v44 broadcasts_S1920x1_S1920x8192)) (broadcast S1920x8192 (Scalar.ofBits .f32 0x7F800000#32)) v42 (ix2 t x)
      = if v42 (ix2 t x) = v44 (ix2 t 0) then (⊤ : EReal) else v42 (ix2 t x) := by
  rw [← bits_inf]
  pointwise []

/-- A row's sum of words. -/
theorem count_row (v : IVec S1920x8192 32) (t : Fin 1920) :
    multiReductionI .add [1] S1920 v 0#32 reduces_S1920x8192_S1920 rfl (ix1 t) = Finset.fold IntOp.addi 0#32 (fun x => v (ix2 t x)) Finset.univ := by
  pointwise []

/-- A sum of ones counts. -/
theorem fold_count {ι : Type} (S : Finset ι) (p : ι → Prop) [DecidablePred p] :
    Finset.fold IntOp.addi 0#32 (fun x => BitVec.setWidth 32 (BitVec.ofBool (decide (p x)))) S = BitVec.ofNat 32 (S.filter p).card := by
  classical
  induction S using Finset.induction_on with
  | empty => rfl
  | insert a S ha ih =>
    rw [Finset.fold_insert ha, ih, Finset.filter_insert]
    by_cases h : p a
    · rw [if_pos h, Finset.card_insert_of_notMem (fun hm => ha (Finset.mem_filter.mp hm).1), decide_eq_true h, add_comm, BitVec.ofNat_add]
      rfl
    · rw [if_neg h, decide_eq_false h]
      exact BitVec.zero_add _

/-- The signed comparison of a small count with one. -/
theorem count_gt (n : ℕ) (hn : n ≤ 8192) (a b : EReal) :
    Scalar.select (IntOp.cmpi .sgt (BitVec.ofNat 32 n) 1#32) a b = if 1 < n then a else b := by
  have h : (BitVec.ofNat 32 n).toInt = n := by rw [BitVec.toInt_ofNat', Int.bmod_def]; omega
  have e : (1#32).slt (BitVec.ofNat 32 n) = decide (1 < n) := by
    rw [BitVec.slt, h, show (1#32 : BitVec 32).toInt = 1 from rfl]
    exact decide_eq_decide.mpr (by omega)
  show (if BitVec.ofBool ((1#32).slt (BitVec.ofNat 32 n)) = 1 then a else b) = _
  rw [e]
  by_cases h1 : 1 < n
  · rw [decide_eq_true h1, if_pos h1]; rfl
  · rw [decide_eq_false h1, if_neg h1]; rfl

/-- The reference's gap of a row of values whose smallest is known. -/
theorem ref2 (v42 : FVec Ideal S1920x8192 .f32) (v43 : FVec Ideal S1920 .f32) (v44 : FVec Ideal S1920x1 .f32) (a : Fin 3) (q : Fin 640)
    (h43 : ∀ t : Fin 1920, v43 (ix1 t) = Finset.univ.inf fun x : Fin 8192 => (v42 (ix2 t x) : EReal)) (h44 : ∀ t : Fin 1920, v44 (ix2 t 0) = v43 (ix1 t)) :
    k0_pay2 v42 v43 v44 (ix2 a q)
      = (∑ x : Fin 8192, Two.one (v42 (ix2 (⟨640 * a.val + q.val, by omega⟩ : Fin 1920) x))).snd
        - (∑ x : Fin 8192, Two.one (v42 (ix2 (⟨640 * a.val + q.val, by omega⟩ : Fin 1920) x))).fst := by
  have hcard : ∀ p : Fin 8192 → Prop, ∀ [DecidablePred p], (Finset.univ.filter p).card ≤ 8192 := fun p _ => (Finset.card_filter_le _ _).trans (by rw [Finset.card_univ, Fintype.card_fin])
  refine (gap_row v43 _ _ a q).trans ?_
  rw [count_row, min_row]
  simp only [eq_row, above_row, h44, h43]
  rw [fold_count, count_gt _ (hcard _), Two.sum_snd_eq, Two.sum_fst]

/-! ### The token's norm drops out of the gap -/

/-- Adding the same value to every entry adds it to the smallest and the second smallest. -/
theorem sum_shift {ι : Type} (S : Finset ι) (r : ℝ) (v : ι → EReal) :
    ∑ x ∈ S, Two.one ((r : EReal) + v x) = ⟨(r : EReal) + (∑ x ∈ S, Two.one (v x)).fst, (r : EReal) + (∑ x ∈ S, Two.one (v x)).snd⟩ := by
  classical
  induction S using Finset.induction_on with
  | empty => rw [Finset.sum_empty, Finset.sum_empty, Two.zero_fst, Two.zero_snd, EReal.coe_add_top]; rfl
  | insert a S ha ih =>
    rw [Finset.sum_insert ha, Finset.sum_insert ha, ih]
    ext1
    · simp only [Two.add_fst, Two.one, min_add_add_left]
    · simp only [Two.add_snd, Two.one, min_top_left, min_add_add_left, max_add_add_left]

/-- A real number added to both sides drops out of a difference. -/
theorem sub_shift (r : ℝ) (a b : EReal) : ((r : EReal) + a) - ((r : EReal) + b) = a - b := by
  rw [sub_eq_add_neg, EReal.neg_add (Or.inl (EReal.coe_ne_bot r)) (Or.inl (EReal.coe_ne_top r)), sub_eq_add_neg, add_add_add_comm, ← sub_eq_add_neg (r : EReal), ← EReal.coe_sub, sub_self, EReal.coe_zero, zero_add, ← sub_eq_add_neg]

/-- The guarded norm is a real number. -/
theorem guard_real (x : EReal) : ∃ r : ℝ, (if (FloatOps.absf (F := Ideal) (φ := .f32) x : EReal) < ⊤ then x else 0) = (r : EReal) := by
  show ∃ r : ℝ, (if max x (-x) < ⊤ then x else 0) = (r : EReal)
  induction x using EReal.rec with
  | bot => exact ⟨0, by simp⟩
  | coe y => exact ⟨y, if_pos (max_lt (EReal.coe_lt_top y) (by rw [← EReal.coe_neg]; exact EReal.coe_lt_top _))⟩
  | top => exact ⟨0, by simp⟩

/-! ### The two results -/

/-- The reference's two results in terms of the shifted distances. -/
theorem ref_results (a0 : Vec Ideal S3x640x512 .fp8e4m3) (a1 : Vec Ideal S3x640 .f32) (a2 : Vec Ideal S8192x512 .fp8e4m3) (a3 : Vec Ideal S512 .f32) (a : Fin 3) (q : Fin 640) :
    Cert.ReferenceIdeal.Value.G4 a0 a1 a2 a3 (ix2 a q)
        = xnS (Xof a0) (sof a1) ⟨640 * a.val + q.val, by omega⟩ + (codePair (Xof a0) (sof a1) a2 (wof a3) ⟨640 * a.val + q.val, by omega⟩).fst
    ∧ Cert.ReferenceIdeal.Value.G5 a0 a1 a2 a3 (ix2 a q)
        = (codePair (Xof a0) (sof a1) a2 (wof a3) ⟨640 * a.val + q.val, by omega⟩).snd - (codePair (Xof a0) (sof a1) a2 (wof a3) ⟨640 * a.val + q.val, by omega⟩).fst := by
  constructor
  · refine (ref1 _ a q).trans ?_
    rw [codePair, Two.sum_fst, ← add_inf]
    refine Finset.inf_congr rfl fun x _ => ?_
    rw [ref9, ref5, ref7, ref8, vS, sub_eq_add_neg, sub_eq_add_neg, add_assoc]
  · refine (ref2 _ _ _ a q (ref11 a0 a1 a2 a3) (ref12 a0 a1 a2 a3)).trans ?_
    obtain ⟨r, hr⟩ := guard_real (k0_pay5 a0 a1 (ix1 (⟨640 * a.val + q.val, by omega⟩ : Fin 1920)))
    have e : ∀ x : Fin 8192, (k0_pay10 a0 a1 a2 a3 (ix2 (⟨640 * a.val + q.val, by omega⟩ : Fin 1920) x) : EReal)
        = (r : EReal) + vS (Xof a0) (sof a1) a2 (wof a3) ⟨640 * a.val + q.val, by omega⟩ x := fun x => by
      rw [ref10, bits_inf, hr, ref7, ref8, vS, sub_eq_add_neg, sub_eq_add_neg, add_assoc]
    simp only [e]
    rw [sum_shift, sub_shift, codePair]

end Cert.Proof

end
-- ==== Proof.Equal.lean ====
/- The kernel's two results are the reference's, as functions of the arguments. -/
module

public import proofs.«01_k».proof.Proof.RefRead

@[expose] public section

noncomputable section

namespace Cert.Proof

open Cert.KernelIdeal Cert.KernelIdeal.Gen Idealize.ShloMosaic Idealize.ShloMosaic.TcCoe

variable (m : (ℓ : Loc nD τ sig) → Buf (Elt Ideal) ℓ) (c : Dev nD)

/-- The kernel's token codes, one row per token. -/
theorem entry0 (t : Fin 1920) (k : Fin 512) : V m c main_v0 (ix2 t k : S1920x512.Idx) = Xof (m ((c : Thread nD τ).loc main_arg0)) (ix2 t k) := by
  entry_read
  show _ = m ((c : Thread nD τ).loc main_arg0) (ix3 ⟨t.val / 640, by omega⟩ ⟨t.val % 640, by omega⟩ k)
  pointwise []

/-- The kernel's code scales. -/
theorem entry3 (k : Fin 512) : V m c main_v1 (ix2 0 k : S1x512.Idx) = wof (m ((c : Thread nD τ).loc main_arg3)) k := by
  entry_read
  show _ = m ((c : Thread nD τ).loc main_arg3) (ix1 k)
  pointwise []

/-- The kernel's two results in terms of its arguments. -/
theorem kernel_results (a : Fin 3) (q : Fin 640) :
    Cert.KernelIdeal.Value.G4 m c (ix2 a q) = xnS (Xof (m ((c : Thread nD τ).loc main_arg0))) (sof (m ((c : Thread nD τ).loc main_arg1))) ⟨640 * a.val + q.val, by omega⟩
        + (codePair (Xof (m ((c : Thread nD τ).loc main_arg0))) (sof (m ((c : Thread nD τ).loc main_arg1))) (m ((c : Thread nD τ).loc main_arg2)) (wof (m ((c : Thread nD τ).loc main_arg3))) ⟨640 * a.val + q.val, by omega⟩).fst
    ∧ Cert.KernelIdeal.Value.G5 m c (ix2 a q)
      = (codePair (Xof (m ((c : Thread nD τ).loc main_arg0))) (sof (m ((c : Thread nD τ).loc main_arg1))) (m ((c : Thread nD τ).loc main_arg2)) (wof (m ((c : Thread nD τ).loc main_arg3))) ⟨640 * a.val + q.val, by omega⟩).snd
        - (codePair (Xof (m ((c : Thread nD τ).loc main_arg0))) (sof (m ((c : Thread nD τ).loc main_arg1))) (m ((c : Thread nD τ).loc main_arg2)) (wof (m ((c : Thread nD τ).loc main_arg3))) ⟨640 * a.val + q.val, by omega⟩).fst := by
  have h := results m c (Xof (m ((c : Thread nD τ).loc main_arg0))) (m ((c : Thread nD τ).loc main_arg1)) (sof (m ((c : Thread nD τ).loc main_arg1)))
    (m ((c : Thread nD τ).loc main_arg2)) (wof (m ((c : Thread nD τ).loc main_arg3))) (entry0 m c) (fun j => congrFun (V_main_arg1 m c) j) (fun _ => rfl)
    (fun j => congrFun (V_main_arg2 m c) j) (entry3 m c) a q
  refine ⟨h.1.trans ?_, h.2⟩
  rw [xnS, sof_eq]
  simp only [one_mul]

/-- A (batch, sequence) index is its two coordinates. -/
theorem idx_pair (y : S3x640.Idx) : y = ix2 (⟨(y 0).val, (y 0).isLt⟩ : Fin 3) (⟨(y 1).val, (y 1).isLt⟩ : Fin 640) := by
  funext a
  match a with
  | ⟨0, _⟩ => rfl
  | ⟨1, _⟩ => rfl

/-- The smallest distances are the reference's. -/
theorem min_equal : Cert.KernelIdeal.Value.G4 m c
    = Cert.ReferenceIdeal.Value.G4 (F := Ideal) (m ((c : Thread nD τ).loc main_arg0)) (m ((c : Thread nD τ).loc main_arg1)) (m ((c : Thread nD τ).loc main_arg2)) (m ((c : Thread nD τ).loc main_arg3)) := by
  funext y
  rw [idx_pair y]
  exact (kernel_results m c _ _).1.trans (ref_results _ _ _ _ _ _).1.symm

/-- The gaps are the reference's. -/
theorem gap_equal : Cert.KernelIdeal.Value.G5 m c
    = Cert.ReferenceIdeal.Value.G5 (F := Ideal) (m ((c : Thread nD τ).loc main_arg0)) (m ((c : Thread nD τ).loc main_arg1)) (m ((c : Thread nD τ).loc main_arg2)) (m ((c : Thread nD τ).loc main_arg3)) := by
  funext y
  rw [idx_pair y]
  exact (kernel_results m c _ _).2.trans (ref_results _ _ _ _ _ _).2.symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Equal
public import Idealize.ShloMosaic.Adequacy
public import Idealize.ShloMosaic.Init

@[expose] public section

noncomputable section

namespace Cert.Proof

open Idealize.ShloMosaic Idealize.SL.Sem Cert.Kernel

/-- From memories agreeing on the arguments the kernel and the reference end with equal results. -/
theorem algebraic : Cert.algebraic_KernelIdeal_ReferenceIdeal := by
  intro m g m' g' _ h
  refine ⟨fun c => Cert.KernelIdeal.Value.G4 m c, fun c => Cert.KernelIdeal.Value.G5 m c, Cert.KernelIdeal.Value.run m g, ?_⟩
  refine (θ_run _ _ _).mono (fun r hr c => ?_) (Cert.ReferenceIdeal.Value.run m' g')
  obtain ⟨h0, h1, h2, h3⟩ := h c
  obtain ⟨r0, r1, k⟩ := hr c
  refine ⟨r0.trans ?_, r1.trans ?_, k⟩
  · rw [h0, h1, h2, h3]; exact (min_equal m c).symm
  · rw [h0, h1, h2, h3]; exact (gap_equal m c).symm

/-- Everything claimed. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  trivial, algebraic⟩

end Cert.Proof

end
